-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_equal_segments [hPre_finite_equal_segments : Cert.Pre_finite_equal_segments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_equal_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_equal_segments [hPre_finite_equal_segments : Cert.Pre_finite_equal_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_equal_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_equal_segments [hKernelIdeal : Cert.KernelIdeal.Facts] [hPre_finite_equal_segments : Cert.Pre_finite_equal_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_equal_segments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_equal_segments [hReferenceIdeal : Cert.ReferenceIdeal.Facts] [hPre_finite_equal_segments : Cert.Pre_finite_equal_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_equal_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_equal_segments [hKernelIdeal : Cert.KernelIdeal.Facts] [hReferenceIdeal : Cert.ReferenceIdeal.Facts] [hPre_finite_equal_segments : Cert.Pre_finite_equal_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_equal_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_equal_segments : Cert.Pre_finite_equal_segments.Facts),
    quiescent_Kernel (hKernel := hKernel)
    ∧ quiescent_KernelIdeal (hKernelIdeal := hKernelIdeal)
    ∧ quiescent_KernelIdeal_pre_finite_equal_segments (hKernelIdeal := hKernelIdeal) (hPre_finite_equal_segments := hPre_finite_equal_segments)
    ∧ quiescent_ReferenceIdeal (hReferenceIdeal := hReferenceIdeal)
    ∧ quiescent_ReferenceIdeal_pre_finite_equal_segments (hReferenceIdeal := hReferenceIdeal) (hPre_finite_equal_segments := hPre_finite_equal_segments)
    ∧ preserves_Kernel_KernelIdeal
    ∧ algebraic_KernelIdeal_ReferenceIdeal_pre_finite_equal_segments (hKernelIdeal := hKernelIdeal) (hReferenceIdeal := hReferenceIdeal) (hPre_finite_equal_segments := hPre_finite_equal_segments)
-- ==== Pre_finite_equal_segments.lean ====
abbrev S32768x3 : Shape := ⟨2, ![32768, 3]⟩
abbrev S32768x128 : Shape := ⟨2, ![32768, 128]⟩
abbrev S16 : Shape := ⟨1, ![16]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_v31 : IVec S_ 1) (main_v33 : IVec S128 1) : IVec S_ 1 :=
  let main_c_12 : IVec S_ 1 := constantI S_ 1 1#1
  let main_v34 : IVec S_ 1 := (fun x v => Host.reduce IntOp.andi x v reducesTo_S128_S_d0 h_S_) main_v33 main_c_12
  let main_v35 : IVec S_ 1 := andi main_v31 main_v34
  main_v35

def fn_part1 {F : FTy → Type} [FloatOps F] (main_arg5 : FVec F S128 .f32) (main_arg6 : FVec F S128 .f32) (main_arg8 : FVec F S128x128 .f32) (main_arg9 : FVec F S128 .f32) (main_v16 : IVec S_ 1) : IVec S_ 1 :=
  let main_v17 : FVec F S128 .f32 := Host.absf main_arg5
  let main_cst_5 : FVec F S_ .f32 := constant S_ .f32 0x7F800000#32
  let main_v18 : FVec F S128 .f32 := broadcastInDim S128 ![] bcast_S_S128 main_cst_5
  let main_v19 : IVec S128 1 := cmpf .olt main_v17 main_v18
  let main_c_6 : IVec S_ 1 := constantI S_ 1 1#1
  let main_v20 : IVec S_ 1 := (fun x v => Host.reduce IntOp.andi x v reducesTo_S128_S_d0 h_S_) main_v19 main_c_6
  let main_v21 : IVec S_ 1 := andi main_v16 main_v20
  let main_v22 : FVec F S128 .f32 := Host.absf main_arg6
  let main_cst_7 : FVec F S_ .f32 := constant S_ .f32 0x7F800000#32
  let main_v23 : FVec F S128 .f32 := broadcastInDim S128 ![] bcast_S_S128 main_cst_7
  let main_v24 : IVec S128 1 := cmpf .olt main_v22 main_v23
  let main_c_8 : IVec S_ 1 := constantI S_ 1 1#1
  let main_v25 : IVec S_ 1 := (fun x v => Host.reduce IntOp.andi x v reducesTo_S128_S_d0 h_S_) main_v24 main_c_8
  let main_v26 : IVec S_ 1 := andi main_v21 main_v25
  let main_v27 : FVec F S128x128 .f32 := Host.absf main_arg8
  let main_cst_9 : FVec F S_ .f32 := constant S_ .f32 0x7F800000#32
  let main_v28 : FVec F S128x128 .f32 := broadcastInDim S128x128 ![] bcast_S_S128x128 main_cst_9
  let main_v29 : IVec S128x128 1 := cmpf .olt main_v27 main_v28
  let main_c_10 : IVec S_ 1 := constantI S_ 1 1#1
  let main_v30 : IVec S_ 1 := (fun x v => Host.reduce IntOp.andi x v reducesTo_S128x128_S_d0_1 h_S_) main_v29 main_c_10
  let main_v31 : IVec S_ 1 := andi main_v26 main_v30
  let main_cst_11 : FVec F S_ .f32 := constant S_ .f32 0x7F800000#32
  let main_v32 : FVec F S128 .f32 := broadcastInDim S128 ![] bcast_S_S128 main_cst_11
  let main_v33 : IVec S128 1 := cmpf .olt main_arg9 main_v32
  fn_part2 (F := F) main_v31 main_v33

def fn {F : FTy → Type} [FloatOps F] (main_arg0 : FVec F S32768x3 .f32) (main_arg1 : FVec F S32768x3 .f32) (main_arg2 : FVec F S32768x128 .f32) (main_arg3 : IVec S16 32) (main_arg4 : FVec F S128x256 .f32) (main_arg5 : FVec F S128 .f32) (main_arg6 : FVec F S128 .f32) (main_arg7 : FVec F S128 .f32) (main_arg8 : FVec F S128x128 .f32) (main_arg9 : FVec F S128 .f32) : IVec S_ 1 :=
  let main_v0 : IVec S16 32 := iotaInDim S16 32 0
  let main_c : IVec S_ 32 := constantI S_ 32 1#32
  let main_v1 : IVec S16 32 := broadcastInDim S16 ![] bcast_S_S16 main_c
  let main_v2 : IVec S16 32 := addi main_v0 main_v1
  let main_c_0 : IVec S_ 32 := constantI S_ 32 2048#32
  let main_v3 : IVec S16 32 := broadcastInDim S16 ![] bcast_S_S16 main_c_0
  let main_v4 : IVec S16 32 := muli main_v2 main_v3
  let main_v5 : IVec S16 1 := cmpi .eq main_arg3 main_v4
  let main_c_1 : IVec S_ 1 := constantI S_ 1 1#1
  let main_v6 : IVec S_ 1 := (fun x v => Host.reduce IntOp.andi x v reducesTo_S16_S_d0 h_S_) main_v5 main_c_1
  let main_v7 : FVec F S32768x128 .f32 := Host.absf main_arg2
  let main_cst : FVec F S_ .f32 := constant S_ .f32 0x7F800000#32
  let main_v8 : FVec F S32768x128 .f32 := broadcastInDim S32768x128 ![] bcast_S_S32768x128 main_cst
  let main_v9 : IVec S32768x128 1 := cmpf .olt main_v7 main_v8
  let main_c_2 : IVec S_ 1 := constantI S_ 1 1#1
  let main_v10 : IVec S_ 1 := (fun x v => Host.reduce IntOp.andi x v reducesTo_S32768x128_S_d0_1 h_S_) main_v9 main_c_2
  let main_v11 : IVec S_ 1 := andi main_v6 main_v10
  let main_v12 : FVec F S128x256 .f32 := Host.absf main_arg4
  let main_cst_3 : FVec F S_ .f32 := constant S_ .f32 0x7F800000#32
  let main_v13 : FVec F S128x256 .f32 := broadcastInDim S128x256 ![] bcast_S_S128x256 main_cst_3
  let main_v14 : IVec S128x256 1 := cmpf .olt main_v12 main_v13
  let main_c_4 : IVec S_ 1 := constantI S_ 1 1#1
  let main_v15 : IVec S_ 1 := (fun x v => Host.reduce IntOp.andi x v reducesTo_S128x256_S_d0_1 h_S_) main_v14 main_c_4
  let main_v16 : IVec S_ 1 := andi main_v11 main_v15
  fn_part1 (F := F) main_arg5 main_arg6 main_arg8 main_arg9 main_v16
-- ==== Kernel.lean ====
abbrev S32768x3 : Shape := ⟨2, ![32768, 3]⟩
abbrev S32768x128 : Shape := ⟨2, ![32768, 128]⟩
abbrev S16 : Shape := ⟨1, ![16]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S8192x128 : Shape := ⟨2, ![8192, 128]⟩
abbrev S16x128 : Shape := ⟨2, ![16, 128]⟩
abbrev S4x128 : Shape := ⟨2, ![4, 128]⟩
abbrev S2048x128 : Shape := ⟨2, ![2048, 128]⟩

abbrev nBuf : Space → Nat
  | .hbm => 21
  | .vmem => 17
  | .smem => 0
  | _ => 0

abbrev bufTy : (tb : Table) → Fin (tcTables nBuf tb) → BufTy
  | .hbm, ⟨0, _⟩ => ⟨S32768x3, .f32⟩
  | .hbm, ⟨1, _⟩ => ⟨S32768x3, .f32⟩
  | .hbm, ⟨2, _⟩ => ⟨S32768x128, .f32⟩
  | .hbm, ⟨3, _⟩ => ⟨S16, .i32⟩
  | .hbm, ⟨4, _⟩ => ⟨S128x256, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .bf16⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S32768x128, .f32⟩
  | .local _ .vmem, ⟨0, _⟩ => ⟨S8192x128, .f32⟩
  | .local _ .vmem, ⟨1, _⟩ => ⟨S8192x128, .f32⟩
  | .local _ .vmem, ⟨2, _⟩ => ⟨S128x128, .bf16⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S8192x128, .f32⟩
  | .local _ .vmem, ⟨11, _⟩ => ⟨S8192x128, .f32⟩
  | .local _ .vmem, ⟨12, _⟩ => ⟨S32768x128, .f32⟩
  | .local _ .vmem, ⟨13, _⟩ => ⟨S16x128, .f32⟩
  | .local _ .vmem, ⟨14, _⟩ => ⟨S4x128, .f32⟩
  | .local _ .vmem, ⟨15, _⟩ => ⟨S1x128, .f32⟩
  | .local _ .vmem, ⟨16, _⟩ => ⟨S16x128, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c8192_i32 : BitVec 32 := 8192#32
  let v11 : BitVec 32 := Scalar.muli arg1 c8192_i32
  let v12 : Index := Scalar.indexCast v11
  let c0_5 : Index := 0#32
  ![v12.toNat, 0]
def k0_off2 (i : grid0.Coords) (c0_i32_7 : BitVec 32) : Fin 2 → Nat :=
  let arg1 : BitVec 32 := BitVec.ofNat 32 (i 1).val
  let c4_i32 : BitVec 32 := 4#32
  let v18 : BitVec 32 := Scalar.muli arg1 c4_i32
  let v19 : BitVec 32 := Scalar.addi v18 c0_i32_7
  let v20 : Index := Scalar.indexCast v19
  let c0_8 : Index := 0#32
  ![v20.toNat, 0]
def k0_off3 (i : grid0.Coords) : Fin 2 → Nat :=
  let arg1 : BitVec 32 := BitVec.ofNat 32 (i 1).val
  let v50 : Index := Scalar.indexCast arg1
  let c0_20 : Index := 0#32
  ![v50.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off4 (i : grid0.Coords) : Fin 2 → Nat :=
  let arg1 : BitVec 32 := BitVec.ofNat 32 (i 1).val
  let c8192_i32 : BitVec 32 := 8192#32
  let v9 : BitVec 32 := Scalar.muli arg1 c8192_i32
  let v10 : Index := Scalar.indexCast v9
  let c0 : Index := 0#32
  ![v10.toNat, 0]
def k0_off5 (i : grid0.Coords) (c0_i32_6 : BitVec 32) : Fin 2 → Nat :=
  let arg1 : BitVec 32 := BitVec.ofNat 32 (i 1).val
  let c4_i32 : BitVec 32 := 4#32
  let v16 : BitVec 32 := Scalar.muli arg1 c4_i32
  let v17 : BitVec 32 := Scalar.addi v16 c0_i32_6
  let v18 : Index := Scalar.indexCast v17
  let c0_7 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S32768x3 : Shape := ⟨2, ![32768, 3]⟩
abbrev S32768x128 : Shape := ⟨2, ![32768, 128]⟩
abbrev S16 : Shape := ⟨1, ![16]⟩
abbrev S128x256 : Shape := ⟨2, ![128, 256]⟩
abbrev S128 : Shape := ⟨1, ![128]⟩
abbrev S128x128 : Shape := ⟨2, ![128, 128]⟩
abbrev S_ : Shape := ⟨0, ![]⟩
abbrev S1 : Shape := ⟨1, ![1]⟩
abbrev S15 : Shape := ⟨1, ![15]⟩
abbrev S1x16 : Shape := ⟨2, ![1, 16]⟩
abbrev S32768 : Shape := ⟨1, ![32768]⟩
abbrev S32768x1 : Shape := ⟨2, ![32768, 1]⟩
abbrev S32768x16 : Shape := ⟨2, ![32768, 16]⟩
abbrev S16x128 : Shape := ⟨2, ![16, 128]⟩
abbrev S16x1 : Shape := ⟨2, ![16, 1]⟩
abbrev S1x128 : Shape := ⟨2, ![1, 128]⟩
abbrev S1x1 : Shape := ⟨2, ![1, 1]⟩
abbrev S32768x256 : Shape := ⟨2, ![32768, 256]⟩
abbrev S256x128 : Shape := ⟨2, ![256, 128]⟩

abbrev nBuf : Space → Nat
  | .hbm => 102
  | .vmem => 0
  | .smem => 0
  | _ => 0

abbrev bufTy : (tb : Table) → Fin (tcTables nBuf tb) → BufTy
  | .hbm, ⟨0, _⟩ => ⟨S32768x3, .f32⟩
  | .hbm, ⟨1, _⟩ => ⟨S32768x3, .f32⟩
  | .hbm, ⟨2, _⟩ => ⟨S32768x128, .f32⟩
  | .hbm, ⟨3, _⟩ => ⟨S16, .i32⟩
  | .hbm, ⟨4, _⟩ => ⟨S128x256, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S1, .i32⟩
  | .hbm, ⟨12, _⟩ => ⟨S15, .i32⟩
  | .hbm, ⟨13, _⟩ => ⟨S16, .i32⟩
  | .hbm, ⟨14, _⟩ => ⟨S16, .i32⟩
  | .hbm, ⟨15, _⟩ => ⟨S16, .f32⟩
  | .hbm, ⟨16, _⟩ => ⟨S1x16, .i32⟩
  | .hbm, ⟨17, _⟩ => ⟨S32768, .i32⟩
  | .hbm, ⟨18, _⟩ => ⟨S32768x1, .i32⟩
  | .hbm, ⟨19, _⟩ => ⟨S32768x16, .i32⟩
  | .hbm, ⟨20, _⟩ => ⟨S32768x16, .i32⟩
  | .hbm, ⟨21, _⟩ => ⟨S32768x16, .i1⟩
  | .hbm, ⟨22, _⟩ => ⟨S32768x16, .i32⟩
  | .hbm, ⟨23, _⟩ => ⟨S_, .i32⟩
  | .hbm, ⟨24, _⟩ => ⟨S32768, .i32⟩
  | .hbm, ⟨25, _⟩ => ⟨S_, .f32⟩
  | .hbm, ⟨26, _⟩ => ⟨S16x128, .f32⟩
  | .hbm, ⟨27, _⟩ => ⟨S32768x1, .i32⟩
  | .hbm, ⟨28, _⟩ => ⟨S16x128, .f32⟩
  | .hbm, ⟨29, _⟩ => ⟨S16x1, .f32⟩
  | .hbm, ⟨30, _⟩ => ⟨S16x128, .f32⟩
  | .hbm, ⟨31, _⟩ => ⟨S16x128, .f32⟩
  | .hbm, ⟨32, _⟩ => ⟨S128x128, .f32⟩
  | .hbm, ⟨33, _⟩ => ⟨S16x128, .f32⟩
  | .hbm, ⟨34, _⟩ => ⟨S1x128, .f32⟩
  | .hbm, ⟨35, _⟩ => ⟨S16x128, .f32⟩
  | .hbm, ⟨36, _⟩ => ⟨S16x128, .f32⟩
  | .hbm, ⟨37, _⟩ => ⟨S_, .f32⟩
  | .hbm, ⟨38, _⟩ => ⟨S16x128, .f32⟩
  | .hbm, ⟨39, _⟩ => ⟨S16x128, .f32⟩
  | .hbm, ⟨40, _⟩ => ⟨S_, .i32⟩
  | .hbm, ⟨41, _⟩ => ⟨S32768, .i32⟩
  | .hbm, ⟨42, _⟩ => ⟨S32768, .i1⟩
  | .hbm, ⟨43, _⟩ => ⟨S_, .i32⟩
  | .hbm, ⟨44, _⟩ => ⟨S32768, .i32⟩
  | .hbm, ⟨45, _⟩ => ⟨S32768, .i32⟩
  | .hbm, ⟨46, _⟩ => ⟨S32768, .i32⟩
  | .hbm, ⟨47, _⟩ => ⟨S32768x1, .i32⟩
  | .hbm, ⟨48, _⟩ => ⟨S1, .i32⟩
  | .hbm, ⟨49, _⟩ => ⟨S_, .i32⟩
  | .hbm, ⟨50, _⟩ => ⟨S32768x1, .i32⟩
  | .hbm, ⟨51, _⟩ => ⟨S32768x1, .i1⟩
  | .hbm, ⟨52, _⟩ => ⟨S1x1, .i32⟩
  | .hbm, ⟨53, _⟩ => ⟨S32768x1, .i32⟩
  | .hbm, ⟨54, _⟩ => ⟨S32768x1, .i1⟩
  | .hbm, ⟨55, _⟩ => ⟨S32768x1, .i1⟩
  | .hbm, ⟨56, _⟩ => ⟨S_, .i1⟩
  | .hbm, ⟨57, _⟩ => ⟨S32768, .i1⟩
  | .hbm, ⟨58, _⟩ => ⟨S32768x128, .f32⟩
  | .hbm, ⟨59, _⟩ => ⟨S32768x128, .i1⟩
  | .hbm, ⟨60, _⟩ => ⟨S_, .f32⟩
  | .hbm, ⟨61, _⟩ => ⟨S32768x128, .f32⟩
  | .hbm, ⟨62, _⟩ => ⟨S32768x128, .f32⟩
  | .hbm, ⟨63, _⟩ => ⟨S32768x256, .f32⟩
  | .hbm, ⟨64, _⟩ => ⟨S256x128, .f32⟩
  | .hbm, ⟨65, _⟩ => ⟨S32768x128, .f32⟩
  | .hbm, ⟨66, _⟩ => ⟨S1x128, .f32⟩
  | .hbm, ⟨67, _⟩ => ⟨S32768x128, .f32⟩
  | .hbm, ⟨68, _⟩ => ⟨S32768x128, .f32⟩
  | .hbm, ⟨69, _⟩ => ⟨S_, .f32⟩
  | .hbm, ⟨70, _⟩ => ⟨S128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S1x128, .f32⟩
  | .hbm, ⟨75, _⟩ => ⟨S32768x128, .f32⟩
  | .hbm, ⟨76, _⟩ => ⟨S32768x128, .f32⟩
  | .hbm, ⟨77, _⟩ => ⟨S32768x128, .f32⟩
  | .hbm, ⟨78, _⟩ => ⟨S_, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S32768x128, .f32⟩
  | .hbm, ⟨85, _⟩ => ⟨S32768x128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S32768x128, .f32⟩
  | .hbm, ⟨92, _⟩ => ⟨S32768x128, .f32⟩
  | .hbm, ⟨93, _⟩ => ⟨S1x128, .f32⟩
  | .hbm, ⟨94, _⟩ => ⟨S32768x128, .f32⟩
  | .hbm, ⟨95, _⟩ => ⟨S32768x128, .f32⟩
  | .hbm, ⟨96, _⟩ => ⟨S1x128, .f32⟩
  | .hbm, ⟨97, _⟩ => ⟨S32768x128, .f32⟩
  | .hbm, ⟨98, _⟩ => ⟨S32768x128, .f32⟩
  | .hbm, ⟨99, _⟩ => ⟨S_, .f32⟩
  | .hbm, ⟨100, _⟩ => ⟨S32768x128, .f32⟩
  | .hbm, ⟨101, _⟩ => ⟨S32768x128, .f32⟩
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_1 : Ref sig .tc := ⟨.hbm, 69, rfl⟩
abbrev main_v32 : Ref sig .tc := ⟨.hbm, 70, rfl⟩
abbrev main_cst_2 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_3 : Ref sig .tc := ⟨.hbm, 78, rfl⟩
abbrev main_v39 : Ref sig .tc := ⟨.hbm, 79, rfl⟩
abbrev main_cst_4 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_5 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_call2_cst : Ref sig .tc := ⟨.hbm, 99, rfl⟩
abbrev main_call2_v0 : Ref sig .tc := ⟨.hbm, 100, rfl⟩
abbrev main_v57 : Ref sig .tc := ⟨.hbm, 101, rfl⟩

abbrev nD : Nat := 1
abbrev τ : Topo := Topo.v7x

variable {F : FTy → Type} [FloatOps F]
-- ==== Proof.KernelIdeal.Body.lean ====
module

public import proofs.«01_k».proof.Proof.Gen.KernelIdeal.Frame
public import proofs.«01_k».proof.Proof.Gen.KernelIdeal.Skeleton
public import Idealize.ShloMosaic.Lib.VecWindow

@[expose] public section

/-!
What one grid point of the kernel does to its buffers. There are three kinds of point. In the first phase (points 0 to 3)
a point multiplies its block of tokens into its rows of the product scratch and records the block's column sums. The first
point of the second phase (point 4) forms the scale and the bias from the column sums. Every point of the second phase
(points 4 to 7) normalises its rows of the product scratch into its output block.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The scale the second phase's first point stores: from the column sums `s1`, the column sums of squares `s2`, the parts
`x2`, `x3` of the first weight and the second weight `x4` (all transposed), the two biases `x5`, `x6` and the gain `x7`. -/
def newScale (x2 x3 x4 : Vec F S128x128 .f32) (x5 x6 x7 : Vec F S1x128 .f32) (s1 : Vec F S16x128 .f32) (s2 : Vec F S4x128 .f32) : Vec F S1x128 .f32 :=
  k0_pay20 (k0_pay14 s1 x4 x6 x3 x5 x2) (k0_pay15 s2) (k0_pay16 s1 x4 x6 x3 x5 x2) (k0_pay17 s1 x4 x6 x3 x5) x7

/-- The bias of each segment the second phase's first point stores, from the same and the offset `x8`. -/
def newBias (x2 x3 x4 : Vec F S128x128 .f32) (x5 x6 x7 x8 : Vec F S1x128 .f32) (s1 : Vec F S16x128 .f32) (s2 : Vec F S4x128 .f32) : Vec F S16x128 .f32 :=
  k0_pay21 (k0_pay12 s1 x4 x6 x3 x5) (k0_pay14 s1 x4 x6 x3 x5 x2) (k0_pay15 s2) (k0_pay16 s1 x4 x6 x3 x5 x2) (k0_pay17 s1 x4 x6 x3 x5) x7 x8

/-- The four column sums of a block `x0`, put over the rows of `s1` that belong to the point. -/
def putSums (i : grid0.Coords) (x0 : Vec F S8192x128 .f32) (s1 : Vec F S16x128 .f32) : Vec F S16x128 .f32 :=
  VecWindow.put (VecWindow.put (VecWindow.put (VecWindow.put s1
    (k0_off2 i 0#32) S1x128.size (k0_pay7 x0)) (k0_off2 i 1#32) S1x128.size (k0_pay8 x0))
    (k0_off2 i 2#32) S1x128.size (k0_pay9 x0)) (k0_off2 i 3#32) S1x128.size (k0_pay1 (k0_pay10 x0))

/-- The point's four output tiles, put over `xo`: from the product scratch `s0`, the scale `sc` and the biases `bi`. -/
def putOut (i : grid0.Coords) (h2 : k0_cond2 i = 1#1) (s0 : Vec F S32768x128 .f32) (sc : Vec F S1x128 .f32) (bi : Vec F S16x128 .f32)
    (xo : Vec F S8192x128 .f32) : Vec F S8192x128 .f32 :=
  have u : Vec F S8192x128 .f32 := VecWindow.window s0 (k0_off4 i) S8192x128.size (k0_off4_inb i h2)
  VecWindow.put (VecWindow.put (VecWindow.put (VecWindow.put xo
    ![0, 0] S2048x128.size (k0_pay22 u sc (VecWindow.window bi (k0_off5 i 0#32) S1x128.size (k0_off5_inb i h2 0))))
    ![2048, 0] S2048x128.size (k0_pay23 u sc (VecWindow.window bi (k0_off5 i 1#32) S1x128.size (k0_off5_inb i h2 1))))
    ![4096, 0] S2048x128.size (k0_pay3 (k0_pay24 u sc) (VecWindow.window bi (k0_off5 i 2#32) S1x128.size (k0_off5_inb i h2 2))))
    ![6144, 0] S2048x128.size (k0_pay4 u sc (VecWindow.window bi (k0_off5 i 3#32) S1x128.size (k0_off5_inb i h2 3)))

/-- A load of a whole buffer that holds `x` reads `x`. -/
theorem ld_whole {sp : Space} {s : Shape} {e : EltTy} {a : Memref sig .tc sp s e} (h : a.IsWhole) (x : Vec F s e) (off : Fin s.rank → ℕ)
    (inb : ∀ k, off k + s.size k ≤ s.size k) : a.view.readAt (Elt F) (Rect.unit off s.size inb).toLoadRect (h.unread x) = x :=
  (View.readAt_full _ _ inb).trans (h.read_unread x)

/-- A load of part of a buffer reads a window of what the buffer holds. -/
theorem ld_read {sp : Space} {s : Shape} {e : EltTy} (a : Memref sig .tc sp s e) (f : a.view.ty.Contents (Elt F)) (off size : Fin s.rank → ℕ)
    (inb : ∀ k, off k + size k ≤ s.size k) :
    a.view.readAt (Elt F) (Rect.unit off size inb).toLoadRect f = VecWindow.window (a.view.read (Elt F) f) off size inb :=
  View.readAt_unit _ _ inb rfl inb

/-- A load of part of a buffer that holds `x` reads a window of `x`. -/
theorem ld_part {sp : Space} {s : Shape} {e : EltTy} {a : Memref sig .tc sp s e} (h : a.IsWhole) (x : Vec F s e) (off size : Fin s.rank → ℕ)
    (inb : ∀ k, off k + size k ≤ s.size k) :
    a.view.readAt (Elt F) (Rect.unit off size inb).toLoadRect (h.unread x) = VecWindow.window x off size inb :=
  (ld_read a _ off size inb).trans (by rw [h.read_unread x])

variable (c : Dev nD) (i : grid0.Coords)
  (arg2 : Memref sig .tc .vmem S8192x128 .f32) (harg2 : arg2.IsWhole)
  (arg3 : Memref sig .tc .vmem S128x128 .bf16) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S8192x128 .f32) (harg11 : arg11.IsWhole)
  (arg12 : Memref sig .tc .vmem S32768x128 .f32) (harg12 : arg12.IsWhole)
  (arg13 : Memref sig .tc .vmem S16x128 .f32) (harg13 : arg13.IsWhole)
  (arg14 : Memref sig .tc .vmem S4x128 .f32) (harg14 : arg14.IsWhole)
  (arg15 : Memref sig .tc .vmem S1x128 .f32) (harg15 : arg15.IsWhole)
  (arg16 : Memref sig .tc .vmem S16x128 .f32) (harg16 : arg16.IsWhole)
  (x0 : Vec F S8192x128 .f32)
  (x1 : Vec F S128x128 .bf16)
  (x2 : Vec F S128x128 .f32)
  (x3 : Vec F S128x128 .f32)
  (x4 : Vec F S128x128 .f32)
  (x5 : Vec F S1x128 .f32)
  (x6 : Vec F S1x128 .f32)
  (x7 : Vec F S1x128 .f32)
  (x8 : Vec F S1x128 .f32)
  (xo : Vec F S8192x128 .f32)
  (s0 : Vec F S32768x128 .f32)
  (s1 : Vec F S16x128 .f32)
  (s2 : Vec F S4x128 .f32)
  (s3 : Vec F S1x128 .f32)
  (s4 : Vec F S16x128 .f32)

set_option maxHeartbeats 6400000 in
/-- A point of the first phase: its rows of the product scratch, its four column sums and its column sum of squares are put in place; nothing else changes. -/
theorem body_A (h1 : k0_cond1 i = 1#1) (h2 : ¬ k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo ∗ owns (c : Thread nD τ) arg12 fullShare s0 ∗ owns (c : Thread nD τ) arg13 fullShare s1 ∗ owns (c : Thread nD τ) arg14 fullShare s2 ∗ owns (c : Thread nD τ) arg15 fullShare s3 ∗ owns (c : Thread nD τ) arg16 fullShare s4
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo ∗ owns (c : Thread nD τ) arg12 fullShare (VecWindow.put s0 (k0_off1 i) S8192x128.size (k0_pay6 x0 x1)) ∗ owns (c : Thread nD τ) arg13 fullShare (putSums i x0 s1) ∗ owns (c : Thread nD τ) arg14 fullShare (VecWindow.put s2 (k0_off3 i) S1x128.size (k0_pay2 (k0_pay5 x0 x1))) ∗ owns (c : Thread nD τ) arg15 fullShare s3 ∗ owns (c : Thread nD τ) arg16 fullShare s4) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_kernel_eq_skeleton]; unfold cc0__fused_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact h1 | sl_exact h2)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; rw [View.read_writes_cons_put (h := rfl), View.writes_nil, harg12.read_unread, ld_whole harg2, ld_whole harg3]
  isplitl [H13]
  · iexists _; isplitr; swap; · iexact H13
    ipureintro; unfold body_A.sl.r_1 putSums; rw [View.read_writes_cons_put (h := rfl), View.read_writes_cons_put (h := rfl), View.read_writes_cons_put (h := rfl), View.read_writes_cons_put (h := rfl), View.writes_nil, harg13.read_unread, ld_whole harg2]
  isplitl [H14]
  · iexists _; isplitr; swap; · iexact H14
    ipureintro; unfold body_A.sl.r; rw [View.read_writes_cons_put (h := rfl), View.writes_nil, harg14.read_unread, ld_whole harg2, ld_whole harg3]
  isplitl [H15]
  · iexists _; isplitr; swap; · iexact H15
    ipureintro; exact harg15.read_unread _
  iexists _; isplitr; swap; · iexact H16
  ipureintro; exact harg16.read_unread _

set_option maxHeartbeats 6400000 in
/-- A later point of the second phase: its output tiles are put in place; nothing else changes. -/
theorem body_C (h1 : ¬ k0_cond1 i = 1#1) (h2 : k0_cond2 i = 1#1) (h3 : ¬ Scalar.cmpi .ne (Scalar.extui (Scalar.cmpi .eq (BitVec.ofNat 32 (i 1).val) 0#32)) 0#32 = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo ∗ owns (c : Thread nD τ) arg12 fullShare s0 ∗ owns (c : Thread nD τ) arg13 fullShare s1 ∗ owns (c : Thread nD τ) arg14 fullShare s2 ∗ owns (c : Thread nD τ) arg15 fullShare s3 ∗ owns (c : Thread nD τ) arg16 fullShare s4
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (putOut i h2 s0 s3 s4 xo) ∗ owns (c : Thread nD τ) arg12 fullShare s0 ∗ owns (c : Thread nD τ) arg13 fullShare s1 ∗ owns (c : Thread nD τ) arg14 fullShare s2 ∗ owns (c : Thread nD τ) arg15 fullShare s3 ∗ owns (c : Thread nD τ) arg16 fullShare s4) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_kernel_eq_skeleton]; unfold cc0__fused_kernel_skel
  simp only [k0_part3_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact h1 | sl_exact h2 | sl_exact h3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; unfold body_C.sl.r body_C.sl.r_1 body_C.sl.r_2 putOut; rw [View.read_writes_cons_put (h := rfl), View.read_writes_cons_put (h := rfl), View.read_writes_cons_put (h := rfl), View.read_writes_cons_put (h := rfl), View.writes_nil, harg11.read_unread, ld_whole harg15, ld_part harg12, ld_part harg16, ld_part harg16, ld_part harg16, ld_part harg16]
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  iexists _; isplitr; swap; · iexact H16
  ipureintro; exact harg16.read_unread _

set_option maxHeartbeats 6400000 in
/-- The first point of the second phase: the scale and the biases are formed, and the point's output tiles are put in place from them. -/
theorem body_B (h1 : ¬ k0_cond1 i = 1#1) (h2 : k0_cond2 i = 1#1) (h3 : Scalar.cmpi .ne (Scalar.extui (Scalar.cmpi .eq (BitVec.ofNat 32 (i 1).val) 0#32)) 0#32 = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo ∗ owns (c : Thread nD τ) arg12 fullShare s0 ∗ owns (c : Thread nD τ) arg13 fullShare s1 ∗ owns (c : Thread nD τ) arg14 fullShare s2 ∗ owns (c : Thread nD τ) arg15 fullShare s3 ∗ owns (c : Thread nD τ) arg16 fullShare s4
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (putOut i h2 s0 (newScale x2 x3 x4 x5 x6 x7 s1 s2) (newBias x2 x3 x4 x5 x6 x7 x8 s1 s2) xo) ∗ owns (c : Thread nD τ) arg12 fullShare s0 ∗ owns (c : Thread nD τ) arg13 fullShare s1 ∗ owns (c : Thread nD τ) arg14 fullShare s2 ∗ owns (c : Thread nD τ) arg15 fullShare (newScale x2 x3 x4 x5 x6 x7 s1 s2) ∗ owns (c : Thread nD τ) arg16 fullShare (newBias x2 x3 x4 x5 x6 x7 x8 s1 s2)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_kernel_eq_skeleton]; unfold cc0__fused_kernel_skel
  simp only [k0_part3_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact h1 | sl_exact h2 | sl_exact h3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; have eb : ∀ f, arg16.view.read (Elt F) (arg16.view.writes (Elt F) f (body_B.sl.H16_1 c arg4 harg4 arg5 harg5 arg6 harg6 arg7 harg7 arg8 harg8 arg9 harg9 arg10 harg10 arg13 harg13 arg14 harg14 x2 x3 x4 x5 x6 x7 x8 s1 s2)) = newBias x2 x3 x4 x5 x6 x7 x8 s1 s2 := fun f => by
      unfold body_B.sl.H16_1; rw [View.read_writes_full]; unfold body_B.sl.r; unfold body_B.sl.r_1 body_B.sl.r_2 body_B.sl.r_3 body_B.sl.r_4
      rw [ld_whole harg13, ld_whole harg6, ld_whole harg8, ld_whole harg5, ld_whole harg7, ld_whole harg4, ld_whole harg14, ld_whole harg9, ld_whole harg10]; rfl
    unfold body_B.sl.r_5 body_B.sl.r_6 body_B.sl.v12 body_B.sl.v61 body_B.sl.v47 body_B.sl.v33 body_B.sl.v19 body_B.sl.H15_1 putOut
    rw [View.read_writes_cons_put (h := rfl), View.read_writes_cons_put (h := rfl), View.read_writes_cons_put (h := rfl), View.read_writes_cons_put (h := rfl), View.writes_nil, harg11.read_unread, View.readCov_full, ld_part harg12, ld_whole harg9, ld_read, ld_read, ld_read, ld_read, eb]
    unfold body_B.sl.r_1 body_B.sl.r_2 body_B.sl.r_3 body_B.sl.r_4
    rw [ld_whole harg13, ld_whole harg6, ld_whole harg8, ld_whole harg5, ld_whole harg7, ld_whole harg4, ld_whole harg14]
    rfl
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; unfold body_B.sl.H15_1; rw [View.read_writes_full]; unfold body_B.sl.r_1 body_B.sl.r_2 body_B.sl.r_3 body_B.sl.r_4
    rw [ld_whole harg13, ld_whole harg6, ld_whole harg8, ld_whole harg5, ld_whole harg7, ld_whole harg4, ld_whole harg14, ld_whole harg9]; rfl
  iexists _; isplitr; swap; · iexact H16
  ipureintro; unfold body_B.sl.H16_1; rw [View.read_writes_full]; unfold body_B.sl.r; unfold body_B.sl.r_1 body_B.sl.r_2 body_B.sl.r_3 body_B.sl.r_4
  rw [ld_whole harg13, ld_whole harg6, ld_whole harg8, ld_whole harg5, ld_whole harg7, ld_whole harg4, ld_whole harg14, ld_whole harg9, ld_whole harg10]; rfl

end Cert.KernelIdeal.Hand

end
-- ==== Proof.KernelIdeal.State.lean ====
module

public import proofs.«01_k».proof.Proof.KernelIdeal.Body
public import Idealize.ShloMosaic.Lib.Pointwise

@[expose] public section

/-!
What the kernel's scratch buffers hold before each grid point, as closed functions of the arrays the kernel is given, and
the proof that each point takes one such state to the next.
-/

set_option maxRecDepth 16384

noncomputable section

namespace Cert.KernelIdeal.Hand

open Idealize.ShloMosaic Idealize.ShloMosaic.TcCoe Idealize.ShloMosaic.Tactic
open Idealize.SL Idealize.SL.Sem
open Cert.KernelIdeal.Gen

/-! ## Rows put over rows -/

section Rows

variable {α : Type} {N h : ℕ}

/-- A row inside the put reads the payload. -/
theorem put_rows_hit (x : (⟨2, ![N, 128]⟩ : Shape).Idx → α) (o : ℕ) (w : (⟨2, ![h, 128]⟩ : Shape).Idx → α) (a : Fin N) (b : Fin 128) (r : Fin h)
    (hr : a.val = o + r.val) : VecWindow.put (s := ⟨2, ![N, 128]⟩) x ![o, 0] ![h, 128] w (ix2 a b) = w (ix2 r b) := by
  have hh : ∀ k : Fin 2, (![o, 0] : Fin 2 → ℕ) k ≤ ((ix2 a b : (⟨2, ![N, 128]⟩ : Shape).Idx) k).val
      ∧ ((ix2 a b : (⟨2, ![N, 128]⟩ : Shape).Idx) k).val < (![o, 0] : Fin 2 → ℕ) k + (![h, 128] : Fin 2 → ℕ) k := by
    intro k
    have h1 := r.isLt
    have h2 := b.isLt
    fin_cases k
    · show o ≤ a.val ∧ a.val < o + h
      omega
    · show 0 ≤ b.val ∧ b.val < 0 + 128
      omega
  refine (dif_pos hh).trans (congrArg w (funext fun k => Fin.ext ?_))
  fin_cases k
  · show a.val - o = r.val
    omega
  · show b.val - 0 = b.val
    omega

/-- A row outside the put reads what was there before. -/
theorem put_rows_miss (x : (⟨2, ![N, 128]⟩ : Shape).Idx → α) (o : ℕ) (w : (⟨2, ![h, 128]⟩ : Shape).Idx → α) (a : Fin N) (b : Fin 128)
    (hr : a.val < o ∨ o + h ≤ a.val) : VecWindow.put (s := ⟨2, ![N, 128]⟩) x ![o, 0] ![h, 128] w (ix2 a b) = x (ix2 a b) := by
  refine dif_neg fun hh => ?_
  have : o ≤ a.val ∧ a.val < o + h := hh (0 : Fin 2)
  omega

/-- A window of rows reads the rows from its offset on. -/
theorem window_rows (x : (⟨2, ![N, 128]⟩ : Shape).Idx → α) (off : Fin 2 → ℕ) (o : ℕ) (ho : off = ![o, 0])
    (inb : ∀ k, off k + (![h, 128] : Fin 2 → ℕ) k ≤ (![N, 128] : Fin 2 → ℕ) k) (r : Fin h) (b : Fin 128) (a : Fin N) (ha : a.val = o + r.val) :
    VecWindow.window (s := ⟨2, ![N, 128]⟩) x off ![h, 128] inb (ix2 r b) = x (ix2 a b) := by
  subst ho
  refine congrArg x (funext fun k => Fin.ext ?_)
  fin_cases k
  · show o + 1 * r.val = a.val
    omega
  · show 0 + 1 * b.val = b.val
    omega

end Rows

variable {F : FTy → Type} [FloatOps F]

/-! ## The state -/

variable (m : (ℓ : Loc nD τ sig) → Buf (Elt F) ℓ) (c : Dev nD)

/-- The grid point of a number below eight. -/
abbrev pt (k : ℕ) (h : k < 8) : Fin cfg0.N := ⟨k, lt_of_lt_of_eq h N_0.symm⟩

/-- A block's column sums, one segment of 2048 rows at a time. -/
def segSums (x0 : Vec F S8192x128 .f32) (r : Fin 4) : Vec F S1x128 .f32 :=
  match r with
  | 0 => k0_pay7 x0
  | 1 => k0_pay8 x0
  | 2 => k0_pay9 x0
  | 3 => k0_pay1 (k0_pay10 x0)

/-- The product scratch after the first phase: the tokens times the first weight, block by block. -/
def U : Vec F S32768x128 .f32 := fun y =>
  have hy : (y 0).val < 32768 := (y 0).isLt
  k0_pay6 (iblk m c 0 (pt ((y 0).val / 8192) (by omega))) (iblk m c 1 (pt 0 (by omega))) (ix2 ⟨(y 0).val % 8192, Nat.mod_lt _ (by omega)⟩ (y 1))

/-- The column sums after the first phase, one row for each segment. -/
def CS : Vec F S16x128 .f32 := fun y =>
  have hy : (y 0).val < 16 := (y 0).isLt
  segSums (iblk m c 0 (pt ((y 0).val / 4) (by omega))) ⟨(y 0).val % 4, Nat.mod_lt _ (by omega)⟩ (ix2 0 (y 1))

/-- The column sums of the squared products after the first phase, one row for each block. -/
def CS2 : Vec F S4x128 .f32 := fun y =>
  have hy : (y 0).val < 4 := (y 0).isLt
  k0_pay2 (k0_pay5 (iblk m c 0 (pt (y 0).val (by omega))) (iblk m c 1 (pt 0 (by omega)))) (ix2 0 (y 1))

/-- The scale the second phase uses. -/
def SC : Vec F S1x128 .f32 :=
  newScale (iblk m c 2 (pt 0 (by omega))) (iblk m c 3 (pt 0 (by omega))) (iblk m c 4 (pt 0 (by omega))) (iblk m c 5 (pt 0 (by omega)))
    (iblk m c 6 (pt 0 (by omega))) (iblk m c 7 (pt 0 (by omega))) (CS m c) (CS2 m c)

/-- The biases the second phase uses, one row for each segment. -/
def BI : Vec F S16x128 .f32 :=
  newBias (iblk m c 2 (pt 0 (by omega))) (iblk m c 3 (pt 0 (by omega))) (iblk m c 4 (pt 0 (by omega))) (iblk m c 5 (pt 0 (by omega)))
    (iblk m c 6 (pt 0 (by omega))) (iblk m c 7 (pt 0 (by omega))) (iblk m c 8 (pt 0 (by omega))) (CS m c) (CS2 m c)

/-- One entry of the result: a product scaled, shifted and cut off below at zero. -/
def cell (u s b : F .f32) : F .f32 := FloatOps.maximumf (FloatOps.addf (FloatOps.mulf u s) b) (Scalar.ofBits .f32 0x00000000#32)

/-- The whole result. -/
def OUT : Vec F S32768x128 .f32 := fun y =>
  have hy : (y 0).val < 32768 := (y 0).isLt
  cell (U m c y) (SC m c (ix2 0 (y 1))) (BI m c (ix2 ⟨(y 0).val / 2048, by show _ < 16; omega⟩ (y 1)))

/-- The result's block of the `g`-th point of the second phase. -/
def outBlk (g : ℕ) (hg : g < 4) : Vec F S8192x128 .f32 := fun y =>
  have hy : (y 0).val < 8192 := (y 0).isLt
  OUT m c (ix2 ⟨8192 * g + (y 0).val, by omega⟩ (y 1))

/-- What is known of the five scratch buffers before point `n`: the rows the points before it are to fill are filled, and from
the second point of the second phase on the scale and the biases are in place. -/
def Inv (n : ℕ) (s0 : Vec F S32768x128 .f32) (s1 : Vec F S16x128 .f32) (s2 : Vec F S4x128 .f32) (s3 : Vec F S1x128 .f32) (s4 : Vec F S16x128 .f32) : Prop :=
  (∀ (a : Fin 32768) (b : Fin 128), a.val < 8192 * n → s0 (ix2 a b) = U m c (ix2 a b))
  ∧ (∀ (a : Fin 16) (b : Fin 128), a.val < 4 * n → s1 (ix2 a b) = CS m c (ix2 a b))
  ∧ (∀ (a : Fin 4) (b : Fin 128), a.val < n → s2 (ix2 a b) = CS2 m c (ix2 a b))
  ∧ (4 < n → s3 = SC m c ∧ s4 = BI m c)

variable {m c}

/-- Nothing is asked before the first point. -/
theorem inv_zero (s0 s1 s2 s3 s4) : Inv m c 0 s0 s1 s2 s3 s4 :=
  ⟨fun _ _ h => absurd h (by omega), fun _ _ h => absurd h (by omega), fun _ _ h => absurd h (by omega), fun h => absurd h (by omega)⟩

/-- Once the first phase is over the product scratch and both scratches of sums are known whole. -/
theorem inv_full {n : ℕ} (hn : 4 ≤ n) {s0 s1 s2 s3 s4} (h : Inv m c n s0 s1 s2 s3 s4) : s0 = U m c ∧ s1 = CS m c ∧ s2 = CS2 m c := by
  refine ⟨funext fun y => ?_, funext fun y => ?_, funext fun y => ?_⟩
  · have hy : (y 0).val < 32768 := (y 0).isLt
    have := h.1 (y 0) (y 1) (by omega)
    rwa [ix2_eta] at this
  · have hy : (y 0).val < 16 := (y 0).isLt
    have := h.2.1 (y 0) (y 1) (by omega)
    rwa [ix2_eta] at this
  · have hy : (y 0).val < 4 := (y 0).isLt
    have := h.2.2.1 (y 0) (y 1) (by omega)
    rwa [ix2_eta] at this

/-- A point of the second phase that finds the scale and the biases in place leaves them so; the first one puts them there. -/
theorem inv_succ {n : ℕ} (hn : 4 ≤ n) : Inv m c (n + 1) (U m c) (CS m c) (CS2 m c) (SC m c) (BI m c) :=
  ⟨fun _ _ _ => rfl, fun _ _ _ => rfl, fun _ _ _ => rfl, fun _ => ⟨rfl, rfl⟩⟩

end Cert.KernelIdeal.Hand

end
-- ==== Proof.KernelIdeal.Steps.lean ====
module

public import proofs.«01_k».proof.Proof.KernelIdeal.State

@[expose] public section

/-!
What one grid point does to the state: a point of the first phase fills its rows of the three scratch buffers it writes, and a
point of the second phase writes its block of the result.
-/

set_option maxRecDepth 16384

noncomputable section

namespace Cert.KernelIdeal.Hand

open Idealize.ShloMosaic Idealize.ShloMosaic.TcCoe Idealize.ShloMosaic.Tactic
open Idealize.SL Idealize.SL.Sem
open Cert.KernelIdeal.Gen

variable {F : FTy → Type} [FloatOps F]

/-! ## The first phase -/

/-- Where the point's four rows of sums are put. -/
theorem off2 (i : grid0.Coords) (r : Fin 4) (k : BitVec 32) (hk : k = BitVec.ofNat 32 r.val) : k0_off2 i k = ![4 * (i 1).val + r.val, 0] :=
  hk ▸ k0_off2_eq i r

/-- The point's sums, read row by row: its own four rows are its block's sums, the others are kept. -/
theorem putSums_at (i : grid0.Coords) (x0 : Vec F S8192x128 .f32) (s1 : Vec F S16x128 .f32) (a : Fin 16) (b : Fin 128) :
    (∀ r : Fin 4, a.val = 4 * (i 1).val + r.val → putSums i x0 s1 (ix2 a b) = segSums x0 r (ix2 0 b))
    ∧ (a.val < 4 * (i 1).val → putSums i x0 s1 (ix2 a b) = s1 (ix2 a b)) := by
  unfold putSums
  rw [off2 i 0 0#32 rfl, off2 i 1 1#32 rfl, off2 i 2 2#32 rfl, off2 i 3 3#32 rfl]
  have e0 : (0 : Fin 4).val = 0 := rfl
  have e1 : (1 : Fin 4).val = 1 := rfl
  have e2 : (2 : Fin 4).val = 2 := rfl
  have e3 : (3 : Fin 4).val = 3 := rfl
  have miss := fun (x : Vec F S16x128 .f32) (o : ℕ) (w : Vec F S1x128 .f32) h => put_rows_miss (N := 16) (h := 1) x o w a b h
  have hit := fun (x : Vec F S16x128 .f32) (o : ℕ) (w : Vec F S1x128 .f32) h => put_rows_hit (N := 16) (h := 1) x o w a b 0 h
  constructor
  · intro r hr
    match r, hr with
    | 0, hr => exact (miss _ _ _ (by omega)).trans ((miss _ _ _ (by omega)).trans ((miss _ _ _ (by omega)).trans (hit _ _ _ hr)))
    | 1, hr => exact (miss _ _ _ (by omega)).trans ((miss _ _ _ (by omega)).trans (hit _ _ _ hr))
    | 2, hr => exact (miss _ _ _ (by omega)).trans (hit _ _ _ hr)
    | 3, hr => exact hit _ _ _ hr
  · intro h
    exact (miss _ _ _ (by omega)).trans ((miss _ _ _ (by omega)).trans ((miss _ _ _ (by omega)).trans (miss _ _ _ (by omega))))

variable (m : (ℓ : Loc nD τ sig) → Buf (Elt F) ℓ) (c : Dev nD)

/-- A point of the first phase takes the state before it to the state after it. -/
theorem inv_phase0 (t : Fin cfg0.N) (i : grid0.Coords) (ht : t.val < 4) (hi : (i 1).val = t.val) {s0 s1 s2 s3 s4} (h : Inv m c t.val s0 s1 s2 s3 s4)
    (x0 : Vec F S8192x128 .f32) (x1 : Vec F S128x128 .bf16) (h0 : x0 = iblk m c 0 t) (h1 : x1 = iblk m c 1 (pt 0 (by omega))) :
    Inv m c (t.val + 1) (VecWindow.put s0 (k0_off1 i) S8192x128.size (k0_pay6 x0 x1)) (putSums i x0 s1)
      (VecWindow.put s2 (k0_off3 i) S1x128.size (k0_pay2 (k0_pay5 x0 x1))) s3 s4 := by
  rw [k0_off1_eq, k0_off3_eq, hi]
  have hpt : ∀ k (hk : k < 8), k = t.val → pt k hk = t := fun k hk e => Fin.ext e
  refine ⟨fun a b ha => ?_, fun a b ha => ?_, fun a b ha => ?_, fun hn => absurd hn (by omega)⟩
  · by_cases hlt : a.val < 8192 * t.val
    · exact (put_rows_miss (N := 32768) (h := 8192) s0 _ _ a b (.inl hlt)).trans (h.1 a b hlt)
    · refine (put_rows_hit (N := 32768) (h := 8192) s0 _ _ a b ⟨a.val % 8192, Nat.mod_lt _ (by omega)⟩ ?_).trans ?_
      · show a.val = 8192 * t.val + a.val % 8192
        omega
      · rw [h0, h1]
        unfold U
        simp only [ix2_0, ix2_1]
        rw [hpt (a.val / 8192) (by omega) (by omega)]
  · by_cases hlt : a.val < 4 * t.val
    · exact ((putSums_at i x0 s1 a b).2 (by omega)).trans (h.2.1 a b hlt)
    · refine ((putSums_at i x0 s1 a b).1 ⟨a.val % 4, Nat.mod_lt _ (by omega)⟩ ?_).trans ?_
      · show a.val = 4 * (i 1).val + a.val % 4
        omega
      · rw [h0]
        unfold CS
        simp only [ix2_0, ix2_1]
        rw [hpt (a.val / 4) (by omega) (by omega)]
  · by_cases hlt : a.val < t.val
    · exact (put_rows_miss (N := 4) (h := 1) s2 _ _ a b (.inl hlt)).trans (h.2.2.1 a b hlt)
    · refine (put_rows_hit (N := 4) (h := 1) s2 _ _ a b 0 ?_).trans ?_
      · show a.val = t.val + 0
        omega
      · rw [h0, h1]
        unfold CS2
        simp only [ix2_0, ix2_1]
        rw [hpt a.val (by omega) (by omega)]

/-! ## The second phase -/

/-- One entry of the first output tile. -/
theorem pay22_at (u : Vec F S8192x128 .f32) (sc w : Vec F S1x128 .f32) (r : Fin 2048) (b : Fin 128) :
    k0_pay22 u sc w (ix2 r b) = cell (u (ix2 ⟨0 + r.val, by omega⟩ b)) (sc (ix2 0 b)) (w (ix2 0 b)) := by
  unfold k0_pay22 cell
  pointwise

/-- One entry of the second output tile. -/
theorem pay23_at (u : Vec F S8192x128 .f32) (sc w : Vec F S1x128 .f32) (r : Fin 2048) (b : Fin 128) :
    k0_pay23 u sc w (ix2 r b) = cell (u (ix2 ⟨2048 + r.val, by omega⟩ b)) (sc (ix2 0 b)) (w (ix2 0 b)) := by
  unfold k0_pay23 cell
  pointwise

/-- One entry of the third output tile. -/
theorem pay3_at (u : Vec F S8192x128 .f32) (sc w : Vec F S1x128 .f32) (r : Fin 2048) (b : Fin 128) :
    k0_pay3 (k0_pay24 u sc) w (ix2 r b) = cell (u (ix2 ⟨4096 + r.val, by omega⟩ b)) (sc (ix2 0 b)) (w (ix2 0 b)) := by
  unfold k0_pay3 k0_pay24 cell
  pointwise

/-- One entry of the fourth output tile. -/
theorem pay4_at (u : Vec F S8192x128 .f32) (sc w : Vec F S1x128 .f32) (r : Fin 2048) (b : Fin 128) :
    k0_pay4 u sc w (ix2 r b) = cell (u (ix2 ⟨6144 + r.val, by omega⟩ b)) (sc (ix2 0 b)) (w (ix2 0 b)) := by
  unfold k0_pay4 cell
  pointwise

/-- The row of biases the `r`-th tile of a point reads. -/
theorem bias_row (i : grid0.Coords) (bi : Vec F S16x128 .f32) (r : Fin 4) (k : BitVec 32) (hk : k = BitVec.ofNat 32 r.val)
    (inb : ∀ a, k0_off5 i k a + S1x128.size a ≤ S16x128.size a) (b : Fin 128) (a : Fin 16) (ha : a.val = 4 * (i 1).val + r.val) :
    VecWindow.window bi (k0_off5 i k) S1x128.size inb (ix2 0 b) = bi (ix2 a b) :=
  window_rows (N := 16) (h := 1) bi _ _ (hk ▸ k0_off5_eq i r) inb 0 b a ha

/-- Four tiles put one below the other, read in each of them. -/
theorem put4_rows (x : Vec F S8192x128 .f32) (w0 w1 w2 w3 : Vec F S2048x128 .f32) (a : Fin 8192) (b : Fin 128) :
    let p := VecWindow.put (VecWindow.put (VecWindow.put (VecWindow.put x ![0, 0] S2048x128.size w0) ![2048, 0] S2048x128.size w1)
      ![4096, 0] S2048x128.size w2) ![6144, 0] S2048x128.size w3
    (∀ r : Fin 2048, a.val = 0 + r.val → p (ix2 a b) = w0 (ix2 r b)) ∧ (∀ r : Fin 2048, a.val = 2048 + r.val → p (ix2 a b) = w1 (ix2 r b))
    ∧ (∀ r : Fin 2048, a.val = 4096 + r.val → p (ix2 a b) = w2 (ix2 r b)) ∧ (∀ r : Fin 2048, a.val = 6144 + r.val → p (ix2 a b) = w3 (ix2 r b)) := by
  have miss := fun (x : Vec F S8192x128 .f32) (o : ℕ) (w : Vec F S2048x128 .f32) h => put_rows_miss (N := 8192) (h := 2048) x o w a b h
  have hit := fun (x : Vec F S8192x128 .f32) (o : ℕ) (w : Vec F S2048x128 .f32) (r : Fin 2048) h => put_rows_hit (N := 8192) (h := 2048) x o w a b r h
  refine ⟨fun r hr => ?_, fun r hr => ?_, fun r hr => ?_, fun r hr => ?_⟩
  · exact (miss _ 6144 _ (by omega)).trans ((miss _ 4096 _ (by omega)).trans ((miss _ 2048 _ (by omega)).trans (hit _ 0 _ r hr)))
  · exact (miss _ 6144 _ (by omega)).trans ((miss _ 4096 _ (by omega)).trans (hit _ 2048 _ r hr))
  · exact (miss _ 6144 _ (by omega)).trans (hit _ 4096 _ r hr)
  · exact hit _ 6144 _ r hr

/-- The block of the result that a point of the second phase leaves in its output block, whatever was there before. -/
theorem putOut_eq (i : grid0.Coords) (h2 : k0_cond2 i = 1#1) (g : ℕ) (hg : g < 4) (hi : (i 1).val = g) (xo : Vec F S8192x128 .f32) :
    putOut i h2 (U m c) (SC m c) (BI m c) xo = outBlk m c g hg := by
  subst hi
  funext y
  obtain ⟨a, b, rfl⟩ : ∃ (a : Fin 8192) (b : Fin 128), y = ix2 a b := ⟨y 0, y 1, eq_ix2 y⟩
  have hu : ∀ a' : Fin 8192, VecWindow.window (U m c) (k0_off4 i) S8192x128.size (k0_off4_inb i h2) (ix2 a' b)
      = U m c (ix2 ⟨8192 * (i 1).val + a'.val, by omega⟩ b) := fun a' =>
    window_rows (N := 32768) (h := 8192) (U m c) _ _ (k0_off4_eq i) _ a' b _ rfl
  have key : ∀ (r : Fin 4) (k : BitVec 32) (hk : k = BitVec.ofNat 32 r.val) (inb) (a' : Fin 8192), a' = a → a.val / 2048 = r.val →
      cell (VecWindow.window (U m c) (k0_off4 i) S8192x128.size (k0_off4_inb i h2) (ix2 a' b)) (SC m c (ix2 0 b))
        (VecWindow.window (BI m c) (k0_off5 i k) S1x128.size inb (ix2 0 b)) = outBlk m c (i 1).val hg (ix2 a b) := by
    rintro r k hk inb a' rfl hr
    rw [hu, bias_row i (BI m c) r k hk inb b ⟨(8192 * (i 1).val + a'.val) / 2048, by omega⟩ (by show (8192 * (i 1).val + a'.val) / 2048 = _; omega)]
    rfl
  unfold putOut
  have hlt := a.isLt
  rcases (by omega : a.val / 2048 = 0 ∨ a.val / 2048 = 1 ∨ a.val / 2048 = 2 ∨ a.val / 2048 = 3) with h | h | h | h
  · exact ((put4_rows _ _ _ _ _ a b).1 ⟨a.val % 2048, by omega⟩ (by show _ = 0 + a.val % 2048; omega)).trans ((pay22_at _ _ _ _ _).trans
      (key 0 0#32 rfl _ _ (Fin.ext (by show 0 + a.val % 2048 = a.val; omega)) h))
  · exact ((put4_rows _ _ _ _ _ a b).2.1 ⟨a.val % 2048, by omega⟩ (by show _ = 2048 + a.val % 2048; omega)).trans ((pay23_at _ _ _ _ _).trans
      (key 1 1#32 rfl _ _ (Fin.ext (by show 2048 + a.val % 2048 = a.val; omega)) h))
  · exact ((put4_rows _ _ _ _ _ a b).2.2.1 ⟨a.val % 2048, by omega⟩ (by show _ = 4096 + a.val % 2048; omega)).trans ((pay3_at _ _ _ _ _).trans
      (key 2 2#32 rfl _ _ (Fin.ext (by show 4096 + a.val % 2048 = a.val; omega)) h))
  · exact ((put4_rows _ _ _ _ _ a b).2.2.2 ⟨a.val % 2048, by omega⟩ (by show _ = 6144 + a.val % 2048; omega)).trans ((pay4_at _ _ _ _ _).trans
      (key 3 3#32 rfl _ _ (Fin.ext (by show 6144 + a.val % 2048 = a.val; omega)) h))

end Cert.KernelIdeal.Hand

end
-- ==== Proof.KernelIdeal.Frame.lean ====
module

public import proofs.«01_k».proof.Proof.KernelIdeal.Steps
public import proofs.«01_k».proof.Proof.Gen.KernelIdeal.Frame
public import Idealize.ShloMosaic.Lib.Claim

@[expose] public section

/-!
The kernel's run: the state is carried through the eight grid points, every execution ends, the arguments and the semaphore
counters end as they were, and the result is written block by block.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The second coordinate of a point: its place in its phase. -/
theorem coord1 (t : Fin cfg0.N) : (grid0.coords t 1).val = t.val % 4 := by
  have h : (grid0.coords t 1).val = t.val / 1 % 4 := Pipeline.Grid.coords_val t 1 (by decide) rfl
  rwa [Nat.div_one] at h

/-- The first phase is the first four points. -/
theorem hcond1 : ∀ t : Fin cfg0.N, k0_cond1 (grid0.coords t) = 1#1 ↔ t.val < 4 := by decide +kernel

/-- The second phase is the last four points. -/
theorem hcond2 : ∀ t : Fin cfg0.N, k0_cond2 (grid0.coords t) = 1#1 ↔ 4 ≤ t.val := by decide +kernel

/-- The first point of a phase. -/
theorem hcond3 : ∀ t : Fin cfg0.N,
    Scalar.cmpi .ne (Scalar.extui (Scalar.cmpi .eq (BitVec.ofNat 32 (grid0.coords t 1).val) 0#32)) 0#32 = 1#1 ↔ t.val % 4 = 0 := by decide +kernel

/-- The output window is idle through the first phase, -/
theorem idle9 : ∀ t : Fin cfg0.N, t.val < 4 → cfg0.idle 9 (grid0.coords t) = true := by decide +kernel

/-- is not written back there, -/
theorem noFlush9 : ∀ t : Fin cfg0.N, t.val < 4 → (cfg0.win 9).flush t = false := by decide +kernel

/-- and is live through the second. -/
theorem live9 : ∀ t : Fin cfg0.N, 4 ≤ t.val → cfg0.idle 9 (grid0.coords t) = false := by decide +kernel

/-! ## The scratch buffers and the invariant -/

/-- Scratch buffer 0. -/
abbrev scr0 := Memref.whole cc0_scratch0

/-- Scratch buffer 1. -/
abbrev scr1 := Memref.whole cc0_scratch1

/-- Scratch buffer 2. -/
abbrev scr2 := Memref.whole cc0_scratch2

/-- Scratch buffer 3. -/
abbrev scr3 := Memref.whole cc0_scratch3

/-- Scratch buffer 4. -/
abbrev scr4 := Memref.whole cc0_scratch4

/-- The scratch buffers at any contents, and the generator register: what the launch hands the region. -/
theorem PhiA_eq (c : Dev nD) : (Pipeline.ΦA spec0 c : sProp 𝕄)
    = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

/-- The invariant before point `n`: the scratch buffers hold a state of `Inv`. -/
def Phi (c : Dev nD) (n : ℕ) : sProp 𝕄 :=
  iprop(∃ (s0 : Vec F S32768x128 .f32) (s1 : Vec F S16x128 .f32) (s2 : Vec F S4x128 .f32) (s3 : Vec F S1x128 .f32) (s4 : Vec F S16x128 .f32),
    ⌜Inv m c n s0 s1 s2 s3 s4⌝ ∗ owns (c : Thread nD τ) scr0 fullShare s0 ∗ owns (c : Thread nD τ) scr1 fullShare s1 ∗ owns (c : Thread nD τ) scr2 fullShare s2 ∗ owns (c : Thread nD τ) scr3 fullShare s3 ∗ owns (c : Thread nD τ) scr4 fullShare s4 ∗ (∃ r, prngReg c r))

/-- The proof data of the region: the arrays as the region finds them; each input window's block left in place; the output
window's block, through the second phase, the result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk m c (t.val % 4) (Nat.mod_lt _ (by omega))
  Φ t := Phi m c t.val
  q _ := fullShare
  owed _ := 0

theorem A_eq (c : Dev nD) (w : Fin 10) : (dats m 0 c).A w = V m c (Pipeline.arrRef spec0 w) := by
  dsimp only [dats]

theorem after0_0 (c : Dev nD) (t : Fin cfg0.N) : (dats m 0 c).after 0 t = iblk m c 0 t := by
  dsimp only [dats]

theorem after0_1 (c : Dev nD) (t : Fin cfg0.N) : (dats m 0 c).after 1 t = iblk m c 1 t := by
  dsimp only [dats]

theorem after0_2 (c : Dev nD) (t : Fin cfg0.N) : (dats m 0 c).after 2 t = iblk m c 2 t := by
  dsimp only [dats]

theorem after0_3 (c : Dev nD) (t : Fin cfg0.N) : (dats m 0 c).after 3 t = iblk m c 3 t := by
  dsimp only [dats]

theorem after0_4 (c : Dev nD) (t : Fin cfg0.N) : (dats m 0 c).after 4 t = iblk m c 4 t := by
  dsimp only [dats]

theorem after0_5 (c : Dev nD) (t : Fin cfg0.N) : (dats m 0 c).after 5 t = iblk m c 5 t := by
  dsimp only [dats]

theorem after0_6 (c : Dev nD) (t : Fin cfg0.N) : (dats m 0 c).after 6 t = iblk m c 6 t := by
  dsimp only [dats]

theorem after0_7 (c : Dev nD) (t : Fin cfg0.N) : (dats m 0 c).after 7 t = iblk m c 7 t := by
  dsimp only [dats]

theorem after0_8 (c : Dev nD) (t : Fin cfg0.N) : (dats m 0 c).after 8 t = iblk m c 8 t := by
  dsimp only [dats]

theorem after0_9 (c : Dev nD) (t : Fin cfg0.N) : (dats m 0 c).after 9 t = outBlk m c (t.val % 4) (Nat.mod_lt _ (by omega)) := by
  dsimp only [dats]

theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) : (dats m 0 c).before 1 t d = iblk m c 1 t :=
  before0_1_of m (dats m 0 c) (A_eq m c 1) (after0_1 m c) t d

theorem before0_2 (c : Dev nD) (t : Fin cfg0.N) (d) : (dats m 0 c).before 2 t d = iblk m c 2 t :=
  before0_2_of m (dats m 0 c) (A_eq m c 2) (after0_2 m c) t d

theorem before0_3 (c : Dev nD) (t : Fin cfg0.N) (d) : (dats m 0 c).before 3 t d = iblk m c 3 t :=
  before0_3_of m (dats m 0 c) (A_eq m c 3) (after0_3 m c) t d

theorem before0_4 (c : Dev nD) (t : Fin cfg0.N) (d) : (dats m 0 c).before 4 t d = iblk m c 4 t :=
  before0_4_of m (dats m 0 c) (A_eq m c 4) (after0_4 m c) t d

theorem before0_5 (c : Dev nD) (t : Fin cfg0.N) (d) : (dats m 0 c).before 5 t d = iblk m c 5 t :=
  before0_5_of m (dats m 0 c) (A_eq m c 5) (after0_5 m c) t d

theorem before0_6 (c : Dev nD) (t : Fin cfg0.N) (d) : (dats m 0 c).before 6 t d = iblk m c 6 t :=
  before0_6_of m (dats m 0 c) (A_eq m c 6) (after0_6 m c) t d

theorem before0_7 (c : Dev nD) (t : Fin cfg0.N) (d) : (dats m 0 c).before 7 t d = iblk m c 7 t :=
  before0_7_of m (dats m 0 c) (A_eq m c 7) (after0_7 m c) t d

theorem before0_8 (c : Dev nD) (t : Fin cfg0.N) (d) : (dats m 0 c).before 8 t d = iblk m c 8 t :=
  before0_8_of m (dats m 0 c) (A_eq m c 8) (after0_8 m c) t d

/-- What a live window leaves is owned at what the proof data says. -/
theorem leaves_live (c : Dev nD) (w : Fin 10) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem const1 (c : Dev nD) (t : Fin cfg0.N) : iblk m c 1 t = iblk m c 1 (pt 0 (by omega)) := rfl

theorem const2 (c : Dev nD) (t : Fin cfg0.N) : iblk m c 2 t = iblk m c 2 (pt 0 (by omega)) := rfl

theorem const3 (c : Dev nD) (t : Fin cfg0.N) : iblk m c 3 t = iblk m c 3 (pt 0 (by omega)) := rfl

theorem const4 (c : Dev nD) (t : Fin cfg0.N) : iblk m c 4 t = iblk m c 4 (pt 0 (by omega)) := rfl

theorem const5 (c : Dev nD) (t : Fin cfg0.N) : iblk m c 5 t = iblk m c 5 (pt 0 (by omega)) := rfl

theorem const6 (c : Dev nD) (t : Fin cfg0.N) : iblk m c 6 t = iblk m c 6 (pt 0 (by omega)) := rfl

theorem const7 (c : Dev nD) (t : Fin cfg0.N) : iblk m c 7 t = iblk m c 7 (pt 0 (by omega)) := rfl

theorem const8 (c : Dev nD) (t : Fin cfg0.N) : iblk m c 8 t = iblk m c 8 (pt 0 (by omega)) := rfl

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point takes the state before it to the state after it, and leaves every window as the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    show (dats m 0 c).Φ t.succ = Phi m c (t.val + 1) from rfl, show (dats m 0 c).Φ t.castSucc = Phi m c t.val from rfl]
  rw [leaves_live m c 0 t rfl, after0_0, leaves_live m c 1 t rfl, after0_1, leaves_live m c 2 t rfl, after0_2, leaves_live m c 3 t rfl, after0_3, leaves_live m c 4 t rfl, after0_4, leaves_live m c 5 t rfl, after0_5, leaves_live m c 6 t rfl, after0_6, leaves_live m c 7 t rfl, after0_7, leaves_live m c 8 t rfl, after0_8]
  unfold Phi
  have hN : t.val < 8 := lt_of_lt_of_eq t.isLt N_0
  by_cases hA : t.val < 4
  · rw [Dat.leavesExact_idle (dats m 0 c) 9 t (idle9 t hA) (noFlush9 t hA)]
    iintro ⟨⟨%s0, %s1, %s2, %s3, %s4, %hI, HS0, HS1, HS2, HS3, HS4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ s0 s1 s2 s3 s4 ((hcond1 t).mpr hA) (fun h => absurd ((hcond2 t).mp h) (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, HS0, HS1, HS2, HS3, HS4⟩
    isplitl [HS0 HS1 HS2 HS3 HS4 Hg]
    · iexists _, _, _, _, _
      isplitr
      · ipureintro; exact inv_phase0 m c t (grid0.coords t) hA ((coord1 t).trans (Nat.mod_eq_of_lt hA)) hI _ _ rfl (const1 m c t)
      isplitl [HS0]; · iexact HS0
      isplitl [HS1]; · iexact HS1
      isplitl [HS2]; · iexact HS2
      isplitl [HS3]; · iexact HS3
      isplitl [HS4]; · iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d9; iexact H9
  · rw [leaves_live m c 9 t (live9 t (by omega)), after0_9]
    have h2 : k0_cond2 (grid0.coords t) = 1#1 := (hcond2 t).mpr (by omega)
    have h1 : ¬ k0_cond1 (grid0.coords t) = 1#1 := fun h => hA ((hcond1 t).mp h)
    have hout := putOut_eq m c (grid0.coords t) h2 (t.val % 4) (Nat.mod_lt _ (by omega)) (coord1 t)
    by_cases hB : t.val % 4 = 0
    · iintro ⟨⟨%s0, %s1, %s2, %s3, %s4, %hI, HS0, HS1, HS2, HS3, HS4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      obtain ⟨rfl, rfl, rfl⟩ := inv_full (by omega) hI
      iapply (body_B c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ _ _ s3 s4 h1 h2 ((hcond3 t).mpr hB) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, HS0, HS1, HS2, HS3, HS4⟩
      isplitl [HS0 HS1 HS2 HS3 HS4 Hg]
      · iexists _, _, _, _, _
        isplitr
        · ipureintro; exact inv_succ (by omega)
        isplitl [HS0]; · iexact HS0
        isplitl [HS1]; · iexact HS1
        isplitl [HS2]; · iexact HS2
        isplitl [HS3]; · iexact HS3
        isplitl [HS4]; · iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      rw [← hout _]; iexact H9
    · iintro ⟨⟨%s0, %s1, %s2, %s3, %s4, %hI, HS0, HS1, HS2, HS3, HS4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      obtain ⟨rfl, rfl, rfl⟩ := inv_full (by omega) hI
      obtain ⟨rfl, rfl⟩ := hI.2.2.2 (by omega)
      iapply (body_C c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ _ _ _ _ h1 h2 (fun h => hB ((hcond3 t).mp h)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, HS0, HS1, HS2, HS3, HS4⟩
      isplitl [HS0 HS1 HS2 HS3 HS4 Hg]
      · iexists _, _, _, _, _
        isplitr
        · ipureintro; exact inv_succ (by omega)
        isplitl [HS0]; · iexact HS0
        isplitl [HS1]; · iexact HS1
        isplitl [HS2]; · iexact HS2
        isplitl [HS3]; · iexact HS3
        isplitl [HS4]; · iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      rw [← hout _]; iexact H9

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨⟨%s0, HS0⟩, ⟨%s1, HS1⟩, ⟨%s2, HS2⟩, ⟨%s3, HS3⟩, ⟨%s4, HS4⟩⟩, Hg⟩
  iexists s0, s1, s2, s3, s4
  isplitr
  · ipureintro; exact inv_zero s0 s1 s2 s3 s4
  isplitl [HS0]; · iexact HS0
  isplitl [HS1]; · iexact HS1
  isplitl [HS2]; · iexact HS2
  isplitl [HS3]; · iexact HS3
  isplitl [HS4]; · iexact HS4
  iexact Hg

/-- After the last point the contents are forgotten. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨%s0, %s1, %s2, %s3, %s4, %hI, HS0, HS1, HS2, HS3, HS4, Hg⟩
  isplitl [HS0 HS1 HS2 HS3 HS4]
  · isplitl [HS0]; · iexists s0; iexact HS0
    isplitl [HS1]; · iexists s1; iexact HS1
    isplitl [HS2]; · iexists s2; iexact HS2
    isplitl [HS3]; · iexists s3; iexact HS3
    iexists s4; iexact HS4
  iexact Hg

/-! ## The run and the frame -/

set_option backward.isDefEq.respectTransparency.types false in
/-- Every execution ends with every array as the proof data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every semaphore counter at zero. -/
theorem frame : θ_run defs (onTc (τ := τ) (main (F := F))) ⟨m, fun _ => 0, ρ⟩ (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KernelIdeal.Final.lean ====
module

public import proofs.«01_k».proof.Proof.KernelIdeal.Frame
public import Idealize.ShloMosaic.Lib.Pipeline.ValueKit

@[expose] public section

/-!
What the result array holds when the kernel ends: the four blocks the second phase writes back tile it.
-/

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen

variable {F : FTy → Type} [FloatOps F] (m : (ℓ : Loc nD τ sig) → Buf (Elt F) ℓ)

/-- Where the output window sits at a point of the second phase. -/
theorem index9 : ∀ t : Fin cfg0.N, (cfg0.win 9).flush t = true → win0_9.index t = ![t.val % 4, 0] :=
  (by decide +kernel : ∀ t : Fin grid0.N, win0_9.flush t = true → win0_9.index t = ![t.val % 4, 0])

/-- The result array after the run. -/
theorem final (c : Dev nD) : (dats m 0 c).arrAt 9 (cfgs 0).N = OUT m c := by
  refine (dats m 0 c).arrAt_eq_of_covers 9 _ (by decide +kernel) fun t hf y => ?_
  have e := index9 t hf
  blk_simp
  rw [after0_9]
  unfold outBlk
  refine congrArg (OUT m c) (funext fun k => Fin.ext ?_)
  blk_simp [e]
  fin_cases k
  · show 8192 * (t.val % 4) + (y 0).val = t.val % 4 * 8192 + (y 0).val
    omega
  · show (y 1).val = 0 * 128 + (y 1).val
    omega

end Cert.KernelIdeal.Hand

end
-- ==== Proof.KernelIdeal.Blocks.lean ====
module

public import proofs.«01_k».proof.Proof.KernelIdeal.State
public import Idealize.ShloMosaic.Lib.Pointwise
public import Idealize.ShloMosaic.Lib.Claim
public import Idealize.ShloMosaic.Lib.Pipeline.ValueKit

@[expose] public section

/-!
What the kernel's input windows hold, in terms of the program's arguments: a block of tokens, or a whole operand that the
host cut out of a weight, turned or reshaped.
-/

set_option maxRecDepth 16384

namespace Cert.KernelIdeal.Hand

open Idealize.ShloMosaic Idealize.ShloMosaic.TcCoe Idealize.ShloMosaic.Tactic
open Idealize.ShloMosaic.Pipeline Idealize.SL.Sem
open Cert.KernelIdeal.Gen

variable (m : (ℓ : Loc nD τ sig) → Buf (Elt Ideal) ℓ) (c : Dev nD)

/-- The token window moves one block down at each point of the first phase. -/
theorem index0 : ∀ t : Fin cfg0.N, t.val < 4 → win0_0.index t = ![t.val, 0] :=
  (by decide +kernel : ∀ t : Fin grid0.N, t.val < 4 → win0_0.index t = ![t.val, 0])

/-- Window 1 stays on its whole operand. -/
theorem index1 : ∀ t : Fin cfg0.N, win0_1.index t = ![0, 0] := (by decide +kernel : ∀ t : Fin grid0.N, win0_1.index t = ![0, 0])

/-- Window 2 stays on its whole operand. -/
theorem index2 : ∀ t : Fin cfg0.N, win0_2.index t = ![0, 0] := (by decide +kernel : ∀ t : Fin grid0.N, win0_2.index t = ![0, 0])

/-- Window 3 stays on its whole operand. -/
theorem index3 : ∀ t : Fin cfg0.N, win0_3.index t = ![0, 0] := (by decide +kernel : ∀ t : Fin grid0.N, win0_3.index t = ![0, 0])

/-- Window 4 stays on its whole operand. -/
theorem index4 : ∀ t : Fin cfg0.N, win0_4.index t = ![0, 0] := (by decide +kernel : ∀ t : Fin grid0.N, win0_4.index t = ![0, 0])

/-- Window 5 stays on its whole operand. -/
theorem index5 : ∀ t : Fin cfg0.N, win0_5.index t = ![0, 0] := (by decide +kernel : ∀ t : Fin grid0.N, win0_5.index t = ![0, 0])

/-- Window 6 stays on its whole operand. -/
theorem index6 : ∀ t : Fin cfg0.N, win0_6.index t = ![0, 0] := (by decide +kernel : ∀ t : Fin grid0.N, win0_6.index t = ![0, 0])

/-- Window 7 stays on its whole operand. -/
theorem index7 : ∀ t : Fin cfg0.N, win0_7.index t = ![0, 0] := (by decide +kernel : ∀ t : Fin grid0.N, win0_7.index t = ![0, 0])

/-- Window 8 stays on its whole operand. -/
theorem index8 : ∀ t : Fin cfg0.N, win0_8.index t = ![0, 0] := (by decide +kernel : ∀ t : Fin grid0.N, win0_8.index t = ![0, 0])

/-- A block of tokens. -/
theorem blk0_at (t : ℕ) (h : t < 4) (a : Fin 8192) (b : Fin 128) :
    iblk m c 0 (pt t (by omega)) (ix2 a b) = (m (c, Proc.tc.devRef main_arg2) : FVec Ideal S32768x128 .f32) (ix2 ⟨t * 8192 + a.val, by omega⟩ b) := by
  blk_ext [iblk, V, index0 (pt t (by omega)) h]

/-- The first half of the first weight, turned; rounding changes nothing over the extended reals. -/
theorem blk1_at (a b : Fin 128) :
    iblk m c 1 (pt 0 (by omega)) (ix2 a b) = (m (c, Proc.tc.devRef main_arg4) : FVec Ideal S128x256 .f32) (ix2 b ⟨a.val, by omega⟩) := by
  have e : iblk m c 1 (pt 0 (by omega)) (ix2 a b) = V m c main_v5 (ix2 a b : S128x128.Idx) := by blk_ext [iblk, index1]
  rw [e]
  entry_read
  pointwise

/-- The same without the rounding. -/
theorem blk2_at (a b : Fin 128) :
    iblk m c 2 (pt 0 (by omega)) (ix2 a b) = (m (c, Proc.tc.devRef main_arg4) : FVec Ideal S128x256 .f32) (ix2 b ⟨a.val, by omega⟩) := by
  have e : iblk m c 2 (pt 0 (by omega)) (ix2 a b) = V m c main_v1 (ix2 a b : S128x128.Idx) := by blk_ext [iblk, index2]
  rw [e]
  entry_read
  pointwise

/-- The second half of the first weight, turned. -/
theorem blk3_at (a b : Fin 128) :
    iblk m c 3 (pt 0 (by omega)) (ix2 a b) = (m (c, Proc.tc.devRef main_arg4) : FVec Ideal S128x256 .f32) (ix2 b ⟨128 + a.val, by omega⟩) := by
  have e : iblk m c 3 (pt 0 (by omega)) (ix2 a b) = V m c main_v3 (ix2 a b : S128x128.Idx) := by blk_ext [iblk, index3]
  rw [e]
  entry_read
  pointwise

/-- The second weight, turned. -/
theorem blk4_at (a b : Fin 128) :
    iblk m c 4 (pt 0 (by omega)) (ix2 a b) = (m (c, Proc.tc.devRef main_arg8) : FVec Ideal S128x128 .f32) (ix2 b a) := by
  have e : iblk m c 4 (pt 0 (by omega)) (ix2 a b) = V m c main_v4 (ix2 a b : S128x128.Idx) := by blk_ext [iblk, index4]
  rw [e]
  entry_read
  pointwise

/-- The first offset. -/
theorem blk5_at (b : Fin 128) :
    iblk m c 5 (pt 0 (by omega)) (ix2 0 b) = (m (c, Proc.tc.devRef main_arg5) : FVec Ideal S128 .f32) (ix1 b) := by
  have e : iblk m c 5 (pt 0 (by omega)) (ix2 0 b) = V m c main_v6 (ix2 0 b : S1x128.Idx) := by blk_ext [iblk, index5]
  rw [e]
  entry_read
  pointwise

/-- The second offset. -/
theorem blk6_at (b : Fin 128) :
    iblk m c 6 (pt 0 (by omega)) (ix2 0 b) = (m (c, Proc.tc.devRef main_arg9) : FVec Ideal S128 .f32) (ix1 b) := by
  have e : iblk m c 6 (pt 0 (by omega)) (ix2 0 b) = V m c main_v7 (ix2 0 b : S1x128.Idx) := by blk_ext [iblk, index6]
  rw [e]
  entry_read
  pointwise

/-- The scale of the normalisation. -/
theorem blk7_at (b : Fin 128) :
    iblk m c 7 (pt 0 (by omega)) (ix2 0 b) = (m (c, Proc.tc.devRef main_arg6) : FVec Ideal S128 .f32) (ix1 b) := by
  have e : iblk m c 7 (pt 0 (by omega)) (ix2 0 b) = V m c main_v8 (ix2 0 b : S1x128.Idx) := by blk_ext [iblk, index7]
  rw [e]
  entry_read
  pointwise

/-- The offset of the normalisation. -/
theorem blk8_at (b : Fin 128) :
    iblk m c 8 (pt 0 (by omega)) (ix2 0 b) = (m (c, Proc.tc.devRef main_arg7) : FVec Ideal S128 .f32) (ix1 b) := by
  have e : iblk m c 8 (pt 0 (by omega)) (ix2 0 b) = V m c main_v9 (ix2 0 b : S1x128.Idx) := by blk_ext [iblk, index8]
  rw [e]
  entry_read
  pointwise

end Cert.KernelIdeal.Hand

end
-- ==== Proof.Value.Real.lean ====
module

public import Mathlib.Tactic.Ring
public import Mathlib.Tactic.NormNum
public import Idealize.ShloMosaic.PureOps.Ideal
public import Idealize.ShloMosaic.Lib.Pointwise.Sums

@[expose] public section

/-!
# The layer over the real numbers

The inputs are real matrices (one offset may be minus infinity); the 32768 rows fall into sixteen segments of 2048. This module states the two ways of
computing the batch normalisation of the linear layer and that they agree: the plain one (`y`, its mean and its
variance over all rows) and the one by sums per segment (`s1`, `s2`).
-/

namespace Cert.Value

open Idealize.ShloMosaic

/-- The inputs of the layer. -/
structure Inputs where
  /-- The tokens. -/
  x : Fin 32768 → Fin 128 → ℝ
  /-- The weight of the linear layer after the concatenation. -/
  w1 : Fin 128 → Fin 256 → ℝ
  /-- Its offset. -/
  b1 : Fin 128 → ℝ
  /-- The scale of the normalisation. -/
  gamma : Fin 128 → ℝ
  /-- The weight of the linear layer on the segment means. -/
  w2 : Fin 128 → Fin 128 → ℝ
  /-- Its offset, which may be minus infinity. -/
  b2 : Fin 128 → EReal
  /-- It is not plus infinity. -/
  b2_ne : ∀ k, b2 k ≠ ⊤

namespace Inputs

variable (I : Inputs)

/-- Row `r` of segment `s`. -/
abbrev row (s : Fin 16) (r : Fin 2048) : Fin 32768 := ⟨s.val * 2048 + r.val, by omega⟩

/-- The segment of a row. -/
abbrev seg (i : Fin 32768) : Fin 16 := ⟨i.val / 2048, by omega⟩

/-- Column `k` of the first half of the weight `w1`. -/
abbrev lo (k : Fin 128) : Fin 256 := ⟨k.val, by omega⟩

/-- Column `k` of the second half of the weight `w1`. -/
abbrev hi (k : Fin 128) : Fin 256 := ⟨128 + k.val, by omega⟩

/-- The sum of column `k` over a segment. -/
noncomputable def segSum (s : Fin 16) (k : Fin 128) : ℝ := ∑ r : Fin 2048, I.x (row s r) k

/-- The mean of column `k` over a segment. -/
noncomputable def mean (s : Fin 16) (k : Fin 128) : ℝ := I.segSum s k * (1 / 2048)

/-- The hidden vector of a segment. -/
noncomputable def h (s : Fin 16) (k : Fin 128) : ℝ := (max (((∑ l, I.mean s l * I.w2 k l : ℝ) : EReal) + I.b2 k) 0).toReal

/-- What a segment's hidden vector and the offset add to each of its rows. -/
noncomputable def C (s : Fin 16) (j : Fin 128) : ℝ := ∑ k, I.h s k * I.w1 j (hi k) + I.b1 j

/-- What a row's own tokens give. -/
noncomputable def u (i : Fin 32768) (j : Fin 128) : ℝ := ∑ k, I.x i k * I.w1 j (lo k)

/-- The mean of `u` over a segment, from the segment's mean. -/
noncomputable def mA (s : Fin 16) (j : Fin 128) : ℝ := ∑ k, I.mean s k * I.w1 j (lo k)

/-- The linear layer. -/
noncomputable def y (i : Fin 32768) (j : Fin 128) : ℝ := I.u i j + I.C (seg i) j

/-- The mean of a column of `y`. -/
noncomputable def mu (j : Fin 128) : ℝ := (∑ i, I.y i j) / 32768

/-- The variance of a column of `y`. -/
noncomputable def var (j : Fin 128) : ℝ := (∑ i, (I.y i j - I.mu j) * (I.y i j - I.mu j)) / 32768

/-- The sum of a column of `y` by segments. -/
noncomputable def s1 (j : Fin 128) : ℝ := 2048 * ∑ s, (I.mA s j + I.C s j)

/-- The sum of the squares of a column of `y` by segments. -/
noncomputable def s2 (j : Fin 128) : ℝ :=
  (∑ g : Fin 4, ∑ t : Fin 8192, I.u ⟨g.val * 8192 + t.val, by omega⟩ j * I.u ⟨g.val * 8192 + t.val, by omega⟩ j)
    + ∑ s, (4096 * I.C s j * I.mA s j + 2048 * I.C s j * I.C s j)

/-- The hidden vector is real whether or not an offset is minus infinity. -/
theorem h_coe (s : Fin 16) (k : Fin 128) : max (((∑ l, I.mean s l * I.w2 k l : ℝ) : EReal) + I.b2 k) 0 = ((I.h s k : ℝ) : EReal) := by
  refine (EReal.coe_toReal (fun e => ?_) (fun e => ?_)).symm
  · rcases max_choice (((∑ l, I.mean s l * I.w2 k l : ℝ) : EReal) + I.b2 k) 0 with h | h
    · exact EReal.add_ne_top (EReal.coe_ne_top _) (I.b2_ne k) (h.symm.trans e)
    · exact EReal.zero_ne_top (h.symm.trans e)
  · exact absurd ((le_max_right (((∑ l, I.mean s l * I.w2 k l : ℝ) : EReal) + I.b2 k) 0).trans_eq e) (not_le.2 EReal.bot_lt_zero)

theorem seg_row (s : Fin 16) (r : Fin 2048) : seg (row s r) = s := Fin.ext (by show (s.val * 2048 + r.val) / 2048 = s.val; omega)

/-- A sum over all rows goes segment by segment. -/
theorem sum_rows (f : Fin 32768 → ℝ) : ∑ i, f i = ∑ s : Fin 16, ∑ r : Fin 2048, f (row s r) := Fin.sum_univ_tiles 16 2048 rfl f

/-- The sum of `u` over a segment is 2048 times what the segment's mean gives. -/
theorem sum_u (s : Fin 16) (j : Fin 128) : ∑ r : Fin 2048, I.u (row s r) j = 2048 * I.mA s j := by
  unfold u mA mean segSum
  rw [Finset.sum_comm, Finset.mul_sum]
  refine Finset.sum_congr rfl fun k _ => ?_
  rw [← Finset.sum_mul]
  ring

/-- The sum of a column of `y` is the one by segments. -/
theorem sum_y (j : Fin 128) : ∑ i, I.y i j = I.s1 j := by
  rw [sum_rows, s1, Finset.mul_sum]
  refine Finset.sum_congr rfl fun s _ => ?_
  simp only [y, seg_row, Finset.sum_add_distrib, sum_u, Finset.sum_const, Finset.card_univ, Fintype.card_fin, nsmul_eq_mul]
  push_cast; ring

/-- The sum of the squares of a column of `y` is the one by segments. -/
theorem sum_y_sq (j : Fin 128) : ∑ i, I.y i j * I.y i j = I.s2 j := by
  have hu : (∑ g : Fin 4, ∑ t : Fin 8192, I.u ⟨g.val * 8192 + t.val, by omega⟩ j * I.u ⟨g.val * 8192 + t.val, by omega⟩ j)
      = ∑ s : Fin 16, ∑ r : Fin 2048, I.u (row s r) j * I.u (row s r) j := by
    rw [← sum_rows (fun i => I.u i j * I.u i j)]
    exact (Fin.sum_univ_tiles 4 8192 rfl (fun i => I.u i j * I.u i j)).symm
  rw [s2, hu, sum_rows, ← Finset.sum_add_distrib]
  refine Finset.sum_congr rfl fun s _ => ?_
  have e : ∀ r : Fin 2048, I.y (row s r) j * I.y (row s r) j
      = I.u (row s r) j * I.u (row s r) j + (2 * I.C s j * I.u (row s r) j + I.C s j * I.C s j) := fun r => by
    simp only [y, seg_row]; ring
  simp only [e, Finset.sum_add_distrib, ← Finset.mul_sum, sum_u, Finset.sum_const, Finset.card_univ, Fintype.card_fin, nsmul_eq_mul]
  push_cast; ring

/-- The mean from the sum by segments. -/
theorem mu_eq (j : Fin 128) : I.s1 j * (1 / 32768) = I.mu j := by rw [mu, sum_y]; ring

/-- The variance is the mean of the squares less the square of the mean. -/
theorem var_eq (j : Fin 128) : I.s2 j * (1 / 32768) - I.mu j * I.mu j = I.var j := by
  have e : ∀ i, (I.y i j - I.mu j) * (I.y i j - I.mu j) = I.y i j * I.y i j + (-(2 * I.mu j) * I.y i j + I.mu j * I.mu j) := fun i => by ring
  have hs : ∑ i, I.y i j = 32768 * I.mu j := by rw [mu]; ring
  simp only [var, e, Finset.sum_add_distrib, ← Finset.mul_sum, sum_y_sq, hs, Finset.sum_const, Finset.card_univ, Fintype.card_fin, nsmul_eq_mul]
  push_cast; ring

/-- The variance is not negative. -/
theorem var_nonneg (j : Fin 128) : 0 ≤ I.var j := div_nonneg (Finset.sum_nonneg fun _ _ => mul_self_nonneg _) (by norm_num)

end Inputs

end Cert.Value

end
-- ==== Proof.Value.Lift.lean ====
module

public import Idealize.ShloMosaic.PureOps.Ideal
public import Idealize.ShloMosaic.PureOps.Ideal.Laws
public import Mathlib.Tactic.Ring
public import Mathlib.Tactic.NormNum

@[expose] public section

/-!
# Real numbers among the extended reals

Sums, quotients and roots of real numbers are real numbers, and the words the two programs name as constants are the
real numbers one expects. The programs' `1e-5` is some positive real number: nothing else is needed of it.
-/

namespace Cert.Value

open Idealize.ShloMosaic

/-- A sum of real numbers. -/
theorem coe_sum {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

/-- A sum of products of real numbers. -/
theorem coe_sum_mul {n : ℕ} (f g : Fin n → ℝ) : ∑ i, ((f i : ℝ) : EReal) * ((g i : ℝ) : EReal) = ((∑ i, f i * g i : ℝ) : EReal) := by
  simp only [← EReal.coe_mul, coe_sum]

/-- A quotient of real numbers. -/
theorem coe_div (a : ℝ) {b : ℝ} (hb : b ≠ 0) : Ideal.div (a : EReal) (b : EReal) = ((a / b : ℝ) : EReal) := by
  rw [Ideal.div_coe hb, ← EReal.coe_mul]
  congr 1; ring

/-- The root of a positive real number. -/
theorem coe_sqrt {a : ℝ} (ha : 0 < a) : Ideal.sqrt (a : EReal) = ((Real.sqrt a : ℝ) : EReal) := by
  rw [Ideal.sqrt_coe, if_neg (not_lt.mpr ha.le)]

/-- The reciprocal root of a positive real number. -/
theorem coe_rsqrt {a : ℝ} (ha : 0 < a) : Ideal.rsqrt (a : EReal) = (((Real.sqrt a)⁻¹ : ℝ) : EReal) := by
  rw [Ideal.rsqrt_coe, if_neg (not_lt.mpr ha.le), if_neg ha.ne']

/-- The word of `2048`. -/
theorem word_2048 : Ideal.ofBits .f32 0x45000000#32 = ((2048 : ℝ) : EReal) := by
  simp [Ideal.ofBits, Ideal.ieee, -EReal.coe_mul]; norm_num

/-- The word of `4096`. -/
theorem word_4096 : Ideal.ofBits .f32 0x45800000#32 = ((4096 : ℝ) : EReal) := by
  simp [Ideal.ofBits, Ideal.ieee, -EReal.coe_mul]; norm_num

/-- The word of `32768`. -/
theorem word_32768 : Ideal.ofBits .f32 0x47000000#32 = ((32768 : ℝ) : EReal) := by
  simp [Ideal.ofBits, Ideal.ieee, -EReal.coe_mul]; norm_num

/-- The word of `1 / 2048`. -/
theorem word_inv2048 : Ideal.ofBits .f32 0x3A000000#32 = ((1 / 2048 : ℝ) : EReal) := by
  simp [Ideal.ofBits, Ideal.ieee, -EReal.coe_mul]; norm_num

/-- The word of `1 / 32768`. -/
theorem word_inv32768 : Ideal.ofBits .f32 0x38000000#32 = ((1 / 32768 : ℝ) : EReal) := by
  simp [Ideal.ofBits, Ideal.ieee, -EReal.coe_mul]; norm_num

/-- What is added to the variance. -/
noncomputable def eps : ℝ := (Ideal.ofBits .f32 0x3727C5AC#32).toReal

theorem word_eps_aux : Ideal.ofBits .f32 0x3727C5AC#32 = ((10995116 * (2 : ℝ) ^ (-40 : ℤ) : ℝ) : EReal) := by
  simp [Ideal.ofBits, Ideal.ieee]

/-- The word of `1e-5` is a real number. -/
theorem word_eps : Ideal.ofBits .f32 0x3727C5AC#32 = ((eps : ℝ) : EReal) := by
  rw [eps, word_eps_aux, EReal.toReal_coe]

/-- It is positive. -/
theorem eps_pos : 0 < eps := by
  rw [eps, word_eps_aux, EReal.toReal_coe]; positivity

end Cert.Value

end
-- ==== Proof.Value.Holds.lean ====
module

public import proofs.«01_k».proof.Proof.Value.Real
public import proofs.«01_k».proof.Proof.Value.Lift
public import Idealize.ShloMosaic.Lib.Pointwise

@[expose] public section

/-!
# Arrays that hold real inputs
-/

namespace Cert.Value

open Idealize.ShloMosaic

/-- The six arrays hold the inputs `I`, element by element. -/
structure Holds (I : Inputs) (x : (⟨2, ![32768, 128]⟩ : Shape).Idx → EReal) (w1 : (⟨2, ![128, 256]⟩ : Shape).Idx → EReal)
    (b1 gamma : (⟨1, ![128]⟩ : Shape).Idx → EReal) (w2 : (⟨2, ![128, 128]⟩ : Shape).Idx → EReal) (b2 : (⟨1, ![128]⟩ : Shape).Idx → EReal) : Prop where
  x : ∀ (i : Fin 32768) (k : Fin 128), x (ix2 i k) = ((I.x i k : ℝ) : EReal)
  w1 : ∀ (j : Fin 128) (k : Fin 256), w1 (ix2 j k) = ((I.w1 j k : ℝ) : EReal)
  b1 : ∀ j : Fin 128, b1 (ix1 j) = ((I.b1 j : ℝ) : EReal)
  gamma : ∀ j : Fin 128, gamma (ix1 j) = ((I.gamma j : ℝ) : EReal)
  w2 : ∀ k l : Fin 128, w2 (ix2 k l) = ((I.w2 k l : ℝ) : EReal)
  b2 : ∀ k : Fin 128, b2 (ix1 k) = I.b2 k

/-- Arrays without infinities hold some inputs; the last need only be without plus infinity. -/
theorem exists_holds {x : (⟨2, ![32768, 128]⟩ : Shape).Idx → EReal} {w1 : (⟨2, ![128, 256]⟩ : Shape).Idx → EReal}
    {b1 gamma : (⟨1, ![128]⟩ : Shape).Idx → EReal} {w2 : (⟨2, ![128, 128]⟩ : Shape).Idx → EReal} {b2 : (⟨1, ![128]⟩ : Shape).Idx → EReal}
    (hx : ∀ i, ((x i).toReal : EReal) = x i) (hw1 : ∀ i, ((w1 i).toReal : EReal) = w1 i) (hb1 : ∀ i, ((b1 i).toReal : EReal) = b1 i)
    (hg : ∀ i, ((gamma i).toReal : EReal) = gamma i) (hw2 : ∀ i, ((w2 i).toReal : EReal) = w2 i) (hb2 : ∀ i, b2 i ≠ ⊤) :
    ∃ I : Inputs, Holds I x w1 b1 gamma w2 b2 :=
  ⟨⟨fun i k => (x (ix2 i k)).toReal, fun j k => (w1 (ix2 j k)).toReal, fun j => (b1 (ix1 j)).toReal, fun j => (gamma (ix1 j)).toReal,
      fun k l => (w2 (ix2 k l)).toReal, fun k => b2 (ix1 k), fun _ => hb2 _⟩,
    fun _ _ => (hx _).symm, fun _ _ => (hw1 _).symm, fun _ => (hb1 _).symm, fun _ => (hg _).symm, fun _ _ => (hw2 _).symm, fun _ => rfl⟩

/-- The layer's value at a row and a column: the normalised linear layer, scaled, moved by `beta` and cut off at zero. -/
noncomputable def layer (I : Inputs) (beta : EReal) (i : Fin 32768) (j : Fin 128) : EReal :=
  max ((((I.y i j - I.mu j) / Real.sqrt (I.var j + eps) * I.gamma j : ℝ) : EReal) + beta) 0

/-- The deviation's root is not zero. -/
theorem dev_pos (I : Inputs) (j : Fin 128) : 0 < I.var j + eps := add_pos_of_nonneg_of_pos (I.var_nonneg j) eps_pos

end Cert.Value

end
-- ==== Proof.KernelIdeal.Values.lean ====
module

public import proofs.«01_k».proof.Proof.KernelIdeal.Body
public import proofs.«01_k».proof.Proof.KernelIdeal.State
public import proofs.«01_k».proof.Proof.Value.Holds
public import Idealize.ShloMosaic.Lib.Pointwise

@[expose] public section

/-!
What the kernel's computations give over the extended reals, on operands that hold real numbers: the products and the
column sums of the first phase, the scale and the biases of the second.
-/

set_option maxRecDepth 16384

namespace Cert.KernelIdeal.Hand

open Idealize.ShloMosaic Idealize.ShloMosaic.TcCoe Idealize.ShloMosaic.Tactic
open Cert.KernelIdeal.Gen Cert.Value Cert.Value.Inputs

/-- A block's products: rows times the weight. -/
theorem pay5_at (x0 : FVec Ideal S8192x128 .f32) (x1 : FVec Ideal S128x128 .bf16) (a : Fin 8192) (b : Fin 128) :
    k0_pay5 (F := Ideal) x0 x1 (ix2 a b) = ∑ k : Fin 128, x0 (ix2 a k) * x1 (ix2 k b) := by
  pointwise [k0_pay5]

/-- What the products' scratch is given is these products. -/
theorem pay6_at (x0 : FVec Ideal S8192x128 .f32) (x1 : FVec Ideal S128x128 .bf16) (a : Fin 8192) (b : Fin 128) :
    k0_pay6 (F := Ideal) x0 x1 (ix2 a b) = k0_pay5 (F := Ideal) x0 x1 (ix2 a b) := by
  pointwise [k0_pay6]

/-- The sum of the squares of a column of products. -/
theorem pay2_at (x : FVec Ideal S8192x128 .f32) (b : Fin 128) :
    k0_pay2 (F := Ideal) x (ix2 0 b) = ∑ t : Fin 8192, x (ix2 t b) * x (ix2 t b) := by
  pointwise [k0_pay2]

/-- The sum of a column over one of a block's four segments. -/
theorem segSums_at (x : FVec Ideal S8192x128 .f32) (r : Fin 4) (b : Fin 128) :
    segSums (F := Ideal) x r (ix2 0 b) = ∑ t : Fin 2048, x (ix2 ⟨r.val * 2048 + t.val, by omega⟩ b) := by
  match r with
  | 0 => pointwise [segSums, k0_pay7]
  | 1 => pointwise [segSums, k0_pay8]
  | 2 => pointwise [segSums, k0_pay9]
  | 3 => pointwise [segSums, k0_pay1, k0_pay10]

/-- The operands of the second phase's first computation hold the real inputs: the weights' halves and the second weight
turned, the offsets and the scale as rows, and the two scratches of sums. -/
structure Operands (I : Inputs) (x2 x3 x4 : FVec Ideal S128x128 .f32) (x5 x6 x7 : FVec Ideal S1x128 .f32) (s1 : FVec Ideal S16x128 .f32)
    (s2 : FVec Ideal S4x128 .f32) : Prop where
  x2 : ∀ k j : Fin 128, x2 (ix2 k j) = ((I.w1 j (lo k) : ℝ) : EReal)
  x3 : ∀ k j : Fin 128, x3 (ix2 k j) = ((I.w1 j (hi k) : ℝ) : EReal)
  x4 : ∀ l k : Fin 128, x4 (ix2 l k) = ((I.w2 k l : ℝ) : EReal)
  x5 : ∀ j : Fin 128, x5 (ix2 0 j) = ((I.b1 j : ℝ) : EReal)
  x6 : ∀ k : Fin 128, x6 (ix2 0 k) = I.b2 k
  x7 : ∀ j : Fin 128, x7 (ix2 0 j) = ((I.gamma j : ℝ) : EReal)
  s1 : ∀ (s : Fin 16) (k : Fin 128), s1 (ix2 s k) = ((I.segSum s k : ℝ) : EReal)
  s2 : ∀ (g : Fin 4) (j : Fin 128), s2 (ix2 g j)
    = ((∑ t : Fin 8192, I.u ⟨g.val * 8192 + t.val, by omega⟩ j * I.u ⟨g.val * 8192 + t.val, by omega⟩ j : ℝ) : EReal)

section Second

variable {I : Inputs} {x2 x3 x4 : FVec Ideal S128x128 .f32} {x5 x6 x7 : FVec Ideal S1x128 .f32} {s1 : FVec Ideal S16x128 .f32}
  {s2 : FVec Ideal S4x128 .f32} (o : Operands I x2 x3 x4 x5 x6 x7 s1 s2)
include o

/-- A segment's mean. -/
theorem pay11_real (s : Fin 16) (k : Fin 128) : k0_pay11 (F := Ideal) s1 (ix2 s k) = ((I.mean s k : ℝ) : EReal) := by
  pointwise [k0_pay11]
  rw [o.s1, word_inv2048, ← EReal.coe_mul]; rfl

/-- The mean of a segment's products. -/
theorem pay13_real (s : Fin 16) (j : Fin 128) : k0_pay13 (F := Ideal) s1 x2 (ix2 s j) = ((I.mA s j : ℝ) : EReal) := by
  pointwise [k0_pay13]
  simp only [pay11_real o, o.x2, coe_sum_mul]; rfl

/-- What a segment's hidden vector and the offset add. -/
theorem pay12_real (s : Fin 16) (j : Fin 128) : k0_pay12 (F := Ideal) s1 x4 x6 x3 x5 (ix2 s j) = ((I.C s j : ℝ) : EReal) := by
  pointwise [k0_pay12]
  simp only [pay11_real o, o.x4, o.x6, o.x3, o.x5, coe_sum_mul, I.h_coe, ← EReal.coe_add]; rfl

/-- The mean of a column. -/
theorem pay18_real (j : Fin 128) : k0_pay18 (F := Ideal) (k0_pay14 s1 x4 x6 x3 x5 x2) (ix2 0 j) = ((I.mu j : ℝ) : EReal) := by
  pointwise [k0_pay18, k0_pay14]
  simp only [pay13_real o, pay12_real o, word_2048, word_inv32768, ← EReal.coe_add, coe_sum, ← EReal.coe_mul]
  exact congrArg _ (I.mu_eq j)

/-- The scale of a column: the reciprocal root of its variance times `gamma`. -/
theorem pay19_real (j : Fin 128) :
    k0_pay19 (F := Ideal) (k0_pay14 s1 x4 x6 x3 x5 x2) (k0_pay15 s2) (k0_pay16 s1 x4 x6 x3 x5 x2) (k0_pay17 s1 x4 x6 x3 x5) x7 (ix2 0 j)
      = (((Real.sqrt (I.var j + eps))⁻¹ * I.gamma j : ℝ) : EReal) := by
  pointwise [k0_pay19, k0_pay15, k0_pay16, k0_pay17]
  simp only [pay18_real o, pay13_real o, pay12_real o, o.s2, o.x7, word_2048, word_4096, word_inv32768, word_eps, ← EReal.coe_add, coe_sum,
    ← EReal.coe_mul, ← EReal.coe_sub]
  have e := I.var_eq j
  unfold Inputs.s2 at e
  rw [e, coe_rsqrt (dev_pos I j), ← EReal.coe_mul]

/-- The stored scale. -/
theorem newScale_real (j : Fin 128) :
    newScale (F := Ideal) x2 x3 x4 x5 x6 x7 s1 s2 (ix2 0 j) = (((Real.sqrt (I.var j + eps))⁻¹ * I.gamma j : ℝ) : EReal) := by
  pointwise [newScale, k0_pay20]
  exact pay19_real o j

/-- The stored bias of a segment. -/
theorem newBias_real (x8 : FVec Ideal S1x128 .f32) (s : Fin 16) (j : Fin 128) :
    newBias (F := Ideal) x2 x3 x4 x5 x6 x7 x8 s1 s2 (ix2 s j)
      = (((I.C s j - I.mu j) * ((Real.sqrt (I.var j + eps))⁻¹ * I.gamma j) : ℝ) : EReal) + x8 (ix2 0 j) := by
  pointwise [newBias, k0_pay21]
  rw [pay12_real o, pay18_real o, pay19_real o, ← EReal.coe_sub, ← EReal.coe_mul]

end Second

end Cert.KernelIdeal.Hand

end
-- ==== Proof.KernelIdeal.Result.lean ====
module

public import proofs.«01_k».proof.Proof.KernelIdeal.Blocks
public import proofs.«01_k».proof.Proof.KernelIdeal.Values

@[expose] public section

/-!
What the kernel's result array holds, when its arguments hold the inputs of the layer: the layer.
-/

set_option maxRecDepth 16384

namespace Cert.KernelIdeal.Hand

open Idealize.ShloMosaic Idealize.ShloMosaic.TcCoe Idealize.ShloMosaic.Tactic
open Idealize.ShloMosaic.Pipeline Idealize.SL.Sem
open Cert.KernelIdeal.Gen Cert.Value Cert.Value.Inputs

/-- The program's arguments on a device hold the real inputs. -/
abbrev Args (m : (ℓ : Loc nD τ sig) → Buf (Elt Ideal) ℓ) (c : Dev nD) (I : Inputs) : Prop :=
  Holds I (m (c, Proc.tc.devRef main_arg2)) (m (c, Proc.tc.devRef main_arg4)) (m (c, Proc.tc.devRef main_arg5))
    (m (c, Proc.tc.devRef main_arg6)) (m (c, Proc.tc.devRef main_arg8)) (m (c, Proc.tc.devRef main_arg9))

variable {m : (ℓ : Loc nD τ sig) → Buf (Elt Ideal) ℓ} {c : Dev nD} {I : Inputs} (hI : Args m c I)
include hI

/-- A block's products. -/
theorem block_u (t : ℕ) (h : t < 4) (a : Fin 8192) (b : Fin 128) :
    k0_pay5 (F := Ideal) (iblk m c 0 (pt t (by omega))) (iblk m c 1 (pt 0 (by omega))) (ix2 a b)
      = ((I.u ⟨t * 8192 + a.val, by omega⟩ b : ℝ) : EReal) := by
  rw [pay5_at]
  simp only [blk0_at m c t h, blk1_at, hI.x, hI.w1]
  exact coe_sum_mul _ _

/-- The products' scratch. -/
theorem U_real (i : Fin 32768) (j : Fin 128) : U m c (ix2 i j) = ((I.u i j : ℝ) : EReal) := by
  have h := i.isLt
  refine (pay6_at _ _ _ _).trans ((block_u hI (i.val / 8192) (by omega) ⟨i.val % 8192, by omega⟩ j).trans ?_)
  have e : (⟨i.val / 8192 * 8192 + i.val % 8192, by omega⟩ : Fin 32768) = i := Fin.ext (by show i.val / 8192 * 8192 + i.val % 8192 = i.val; omega)
  exact congrArg (fun i => ((I.u i j : ℝ) : EReal)) e

/-- The scratch of column sums. -/
theorem CS_real (s : Fin 16) (k : Fin 128) : CS m c (ix2 s k) = ((I.segSum s k : ℝ) : EReal) := by
  have h := s.isLt
  refine (segSums_at _ ⟨s.val % 4, by omega⟩ k).trans ?_
  unfold Inputs.segSum
  rw [← coe_sum]
  refine Finset.sum_congr rfl fun t _ => ?_
  have ht := t.isLt
  refine (blk0_at m c (s.val / 4) (by omega) ⟨s.val % 4 * 2048 + t.val, by omega⟩ k).trans ((hI.x _ _).trans ?_)
  have e : (⟨s.val / 4 * 8192 + (s.val % 4 * 2048 + t.val), by omega⟩ : Fin 32768) = row s t :=
    Fin.ext (by show s.val / 4 * 8192 + (s.val % 4 * 2048 + t.val) = s.val * 2048 + t.val; omega)
  exact congrArg (fun i => ((I.x i k : ℝ) : EReal)) e

/-- The scratch of sums of squares. -/
theorem CS2_real (g : Fin 4) (j : Fin 128) : CS2 m c (ix2 g j)
    = ((∑ t : Fin 8192, I.u ⟨g.val * 8192 + t.val, by omega⟩ j * I.u ⟨g.val * 8192 + t.val, by omega⟩ j : ℝ) : EReal) := by
  refine (pay2_at _ j).trans ?_
  rw [← coe_sum]
  refine Finset.sum_congr rfl fun t _ => ?_
  rw [EReal.coe_mul]
  exact congrArg₂ (· * ·) (block_u hI g.val g.isLt t j) (block_u hI g.val g.isLt t j)

/-- The second phase's operands. -/
theorem operands : Operands I (iblk m c 2 (pt 0 (by omega))) (iblk m c 3 (pt 0 (by omega))) (iblk m c 4 (pt 0 (by omega)))
    (iblk m c 5 (pt 0 (by omega))) (iblk m c 6 (pt 0 (by omega))) (iblk m c 7 (pt 0 (by omega))) (CS m c) (CS2 m c) where
  x2 k j := (blk2_at m c k j).trans (hI.w1 _ _)
  x3 k j := (blk3_at m c k j).trans (hI.w1 _ _)
  x4 l k := (blk4_at m c l k).trans (hI.w2 _ _)
  x5 j := (blk5_at m c j).trans (hI.b1 _)
  x6 k := (blk6_at m c k).trans (hI.b2 _)
  x7 j := (blk7_at m c j).trans (hI.gamma _)
  s1 s k := CS_real hI s k
  s2 g j := CS2_real hI g j

/-- THE RESULT: at each row and column the layer of the real inputs, moved by whatever `beta` holds. -/
theorem OUT_layer (i : Fin 32768) (j : Fin 128) :
    OUT m c (ix2 i j) = layer I ((m (c, Proc.tc.devRef main_arg7) : FVec Ideal S128 .f32) (ix1 j)) i j := by
  have hs : SC m c (ix2 0 j) = _ := newScale_real (operands hI) j
  have hb : BI m c (ix2 (seg i) j) = _ := newBias_real (operands hI) (iblk m c 8 (pt 0 (by omega))) (seg i) j
  show max (U m c (ix2 i j) * SC m c (ix2 0 j) + BI m c (ix2 (seg i) j) : EReal) (Ideal.ofBits .f32 0x00000000#32) = _
  rw [U_real hI, hs, hb, blk8_at, Ideal.ofBits_zero_f32, ← EReal.coe_mul, ← add_assoc, ← EReal.coe_add]
  unfold layer
  refine congrArg (fun r : ℝ => max ((r : EReal) + _) 0) ?_
  unfold y
  rw [div_eq_mul_inv]
  ring

end Cert.KernelIdeal.Hand

end
-- ==== Proof.ReferenceIdeal.Terms.lean ====
module

public import proofs.«01_k».proof.Proof.Gen.ReferenceIdeal
public import Idealize.ShloMosaic.Lib.Pointwise

@[expose] public section

/-!
The reference's result as a composed function of its arguments, in named stages.
-/

set_option maxRecDepth 16384

noncomputable section

namespace Cert.ReferenceIdeal.Hand

open Idealize.ShloMosaic Idealize.ShloMosaic.TcCoe
open Cert.ReferenceIdeal Cert.ReferenceIdeal.Facts₀

/-- The rows each segment has: the difference of neighbouring ends, as real numbers. -/
def counts (o : IVec S16 32) : FVec Ideal S16 .f32 :=
  sitofp .f32 (subi o (concatenate S16 0 [⟨S1, broadcastInDim S1 ![] bcast_S_S1 (constantI S_ 32 0#32)⟩,
    ⟨S15, extractStridedSlice S15 ![0] o slices_S16_S15_0⟩] concatenates_S1_S15_S16_d0))

/-- Which ends lie at or before a row. -/
def ended (o : IVec S16 32) : IVec S32768x16 1 :=
  cmpi .sle (broadcastInDim S32768x16 ![0, 1] bcast_S1x16_S32768x16_0_1 (broadcastInDim S1x16 ![1] bcast_S16_S1x16_1 o))
    (broadcastInDim S32768x16 ![0, 1] bcast_S32768x1_S32768x16_0_1
      (broadcastInDim S32768x1 ![0] bcast_S32768_S32768x1_0 (iotaInDim S32768 32 0)))

/-- The segment of each row: how many ends lie at or before it. -/
def ids (o : IVec S16 32) : IVec S32768 32 :=
  Host.reduce IntOp.addi (extui 32 (ended o) natLt_1_32) (constantI S_ 32 0#32) reducesTo_S32768x16_S32768_d1 h_S_

/-- The sum of the tokens of each segment. -/
def sums (x : FVec Ideal S32768x128 .f32) (o : IVec S16 32) : FVec Ideal S16x128 .f32 :=
  Host.scatterAdd scatter_S16x128_S32768x1_S32768x128_1_0_0_1 (broadcastInDim S16x128 ![] bcast_S_S16x128 (constant S_ .f32 0x00000000#32))
    (broadcastInDim S32768x1 ![0] bcast_S32768_S32768x1_0 (ids o)) x

/-- The mean of the tokens of each segment. -/
def means (x : FVec Ideal S32768x128 .f32) (o : IVec S16 32) : FVec Ideal S16x128 .f32 :=
  Host.divf (sums x o) (broadcastInDim S16x128 ![0, 1] bcast_S16x1_S16x128_0_1 (broadcastInDim S16x1 ![0] bcast_S16_S16x1_0 (counts o)))

/-- The hidden vector of each segment. -/
def hidden (x : FVec Ideal S32768x128 .f32) (o : IVec S16 32) (w2 : FVec Ideal S128x128 .f32) (b2 : FVec Ideal S128 .f32) : FVec Ideal S16x128 .f32 :=
  maximumf
    (addf (Host.dotGeneral dot_S16x128_S128x128_S16x128_1_0_0_1_n_n none (means x o) (transpose S128x128 [1, 0] w2 transposes_S128x128_S128x128_1_0))
      (broadcastInDim S16x128 ![0, 1] bcast_S1x128_S16x128_0_1 (broadcastInDim S1x128 ![1] bcast_S128_S1x128_1 b2)))
    (broadcastInDim S16x128 ![] bcast_S_S16x128 (constant S_ .f32 0x00000000#32))

/-- Row numbers as an index column, a negative one counted from the end. -/
def wrapped (i : IVec S32768 32) : IVec S32768x1 32 :=
  broadcastInDim S32768x1 ![0] bcast_S32768_S32768x1_0
    (select (cmpi .slt i (broadcastInDim S32768 ![] bcast_S_S32768 (constantI S_ 32 0#32)))
      (addi i (broadcastInDim S32768 ![] bcast_S_S32768 (constantI S_ 32 16#32))) i)

/-- Which row numbers are in bounds. -/
def inside (i : IVec S32768x1 32) : IVec S32768 1 :=
  Host.reduce IntOp.andi
    (andi (cmpi .sge i (broadcastInDim S32768x1 ![] bcast_S_S32768x1 (constantI S_ 32 0#32)))
      (cmpi .sle i (broadcastInDim S32768x1 ![0, 1] bcast_S1x1_S32768x1_0_1 (broadcastInDim S1x1 ![1] bcast_S1_S1x1_1 (constantI S1 32 15#32)))))
    (constantI S_ 1 1#1) reducesTo_S32768x1_S32768_d1 h_S_

/-- The rows of `h` that the row numbers name. -/
def take (h : FVec Ideal S16x128 .f32) (i : IVec S32768 32) : FVec Ideal S32768x128 .f32 :=
  select (broadcastInDim S32768x128 ![0] bcast_S32768_S32768x128_0 (inside (wrapped i)))
    (Host.gather gather_S16x128_S32768x1_S32768x128_1_0_n_n_0_1_1128 h (wrapped i))
    (broadcastInDim S32768x128 ![] bcast_S_S32768x128 (constant S_ .f32 0x7FC00000#32))

/-- The linear layer on the tokens next to their segments' hidden vectors. -/
def linear (x t : FVec Ideal S32768x128 .f32) (w1 : FVec Ideal S128x256 .f32) (b1 : FVec Ideal S128 .f32) : FVec Ideal S32768x128 .f32 :=
  addf
    (Host.dotGeneral dot_S32768x256_S256x128_S32768x128_1_0_0_1_n_n none
      (concatenate S32768x256 1 [⟨S32768x128, x⟩, ⟨S32768x128, t⟩] concatenates_S32768x128_S32768x128_S32768x256_d1)
      (transpose S256x128 [1, 0] w1 transposes_S128x256_S256x128_1_0))
    (broadcastInDim S32768x128 ![0, 1] bcast_S1x128_S32768x128_0_1 (broadcastInDim S1x128 ![1] bcast_S128_S1x128_1 b1))

/-- A row laid over all rows. -/
def rows (v : FVec Ideal S128 .f32) : FVec Ideal S32768x128 .f32 :=
  broadcastInDim S32768x128 ![0, 1] bcast_S1x128_S32768x128_0_1 (broadcastInDim S1x128 ![1] bcast_S128_S1x128_1 v)

/-- The mean of each column. -/
def colMean (y : FVec Ideal S32768x128 .f32) : FVec Ideal S128 .f32 :=
  Host.divf (Host.reduceAdd y (constant S_ .f32 0x00000000#32) reducesTo_S32768x128_S128_d0 h_S_)
    (broadcastInDim S128 ![] bcast_S_S128 (constant S_ .f32 0x47000000#32))

/-- The root of each column's variance with `1e-5` added. -/
def dev (y : FVec Ideal S32768x128 .f32) : FVec Ideal S128 .f32 :=
  Host.sqrt (addf (colMean (mulf (subf y (rows (colMean y))) (subf y (rows (colMean y)))))
    (broadcastInDim S128 ![] bcast_S_S128 (constant S_ .f32 0x3727C5AC#32)))

/-- The normalised columns, scaled, moved and cut off below at zero. -/
def norm (y : FVec Ideal S32768x128 .f32) (gamma beta : FVec Ideal S128 .f32) : FVec Ideal S32768x128 .f32 :=
  maximumf (addf (mulf (Host.divf (subf y (rows (colMean y))) (rows (dev y))) (rows gamma)) (rows beta))
    (broadcastInDim S32768x128 ![] bcast_S_S32768x128 (constant S_ .f32 0x00000000#32))

/-- The whole result. -/
def result (x : FVec Ideal S32768x128 .f32) (o : IVec S16 32) (w1 : FVec Ideal S128x256 .f32) (b1 gamma beta : FVec Ideal S128 .f32)
    (w2 : FVec Ideal S128x128 .f32) (b2 : FVec Ideal S128 .f32) : FVec Ideal S32768x128 .f32 :=
  norm (linear x (take (hidden x o w2 b2) (ids o)) w1 b1) gamma beta

end Cert.ReferenceIdeal.Hand

end

end
-- ==== Proof.ReferenceIdeal.Segments.lean ====
module

public import proofs.«01_k».proof.Proof.ReferenceIdeal.Terms
public import Idealize.ShloMosaic.Lib.Routing.Ops
public import Idealize.ShloMosaic.Lib.ReduceAll

@[expose] public section

/-!
The reference's integer part, when the ends are 2048, 4096, …, 32768: row `i` lies in segment `i / 2048`, each segment
has 2048 rows, scattering the tokens by segment adds each segment's rows, and taking by segment reads its row.
-/

set_option maxRecDepth 16384

namespace Cert.ReferenceIdeal.Hand

open Idealize.ShloMosaic Idealize.ShloMosaic.TcCoe
open Cert.ReferenceIdeal Cert.ReferenceIdeal.Gen

/-- The ends of the segments. -/
abbrev Ends (o : IVec S16 32) : Prop := ∀ s : Fin 16, o (ix1 s) = BitVec.ofNat 32 ((s.val + 1) * 2048)

/-- As many numbers below sixteen are smaller than `n` as `n` says. -/
theorem card_below : ∀ n : Fin 17, (Finset.univ.filter (fun q : Fin 16 => q.val < n.val)).card = n.val := by decide

/-- Row `i` lies in segment `i / 2048`. -/
theorem ids_at {o : IVec S16 32} (ho : Ends o) (i : Fin 32768) : ids o (ix1 i) = BitVec.ofNat 32 (i.val / 2048) := by
  have hi := i.isLt
  have hm : ∀ q : Fin 16, ended o (ix2 i q) = 1#1 ↔ q.val < i.val / 2048 := fun q => by
    have hq := q.isLt
    have e : ended o (ix2 i q) = IntOp.cmpi .sle (o (ix1 q)) (BitVec.ofNat 32 i.val) := by pointwise [ended]
    rw [e, ho, StableHlo.Predicate.sle_iff_toNat (by rw [BitVec.toNat_ofNat]; omega) (by rw [BitVec.toNat_ofNat]; omega),
      BitVec.toNat_ofNat, BitVec.toNat_ofNat]
    omega
  apply BitVec.eq_of_toNat_eq
  refine (StableHlo.Predicate.toNat_reduce_count_cols (by norm_num) (ended o) Facts₀.natLt_1_32 Facts₀.reducesTo_S32768x16_S32768_d1 Facts₀.h_S_ (ix1 i)).trans ?_
  rw [BitVec.toNat_ofNat, Nat.mod_eq_of_lt (by omega)]
  refine Eq.trans ?_ (card_below ⟨i.val / 2048, by omega⟩)
  congr 1
  refine Finset.filter_congr fun q _ => ?_
  refine Eq.to_iff ?_ |>.trans (hm q)
  rfl

/-- Each segment has 2048 rows. -/
theorem counts_at {o : IVec S16 32} (ho : Ends o) (s : Fin 16) : counts o (ix1 s) = ((2048 : ℝ) : EReal) := by
  have hs := s.isLt
  have e : counts o (ix1 s) = (((IntOp.subi (o (ix1 s)) (if h : s.val < 1 then 0#32 else o (ix1 ⟨s.val - 1, by omega⟩))).toInt : ℝ) : EReal) := by
    pointwise [counts]
    rfl
  have w : IntOp.subi (o (ix1 s)) (if h : s.val < 1 then 0#32 else o (ix1 ⟨s.val - 1, by omega⟩)) = 2048#32 := by
    rw [ho]
    split
    · next h =>
      have : s.val = 0 := by omega
      rw [this]; decide
    · next h =>
      rw [ho]
      apply BitVec.eq_of_toNat_eq
      simp only [IntOp.subi, BitVec.toNat_sub, BitVec.toNat_ofNat]
      omega
  rw [e, w, show (2048#32).toInt = 2048 from by decide]
  norm_num

/-- The token at row `i` and column `b` is added to the sum at segment `s` and column `k` exactly when its segment is `s` and its column `k`. -/
theorem lands (idx : IVec S32768x1 32) (i : Fin 32768) (b k : Fin 128) (s : Fin 16) :
    scatter_S16x128_S32768x1_S32768x128_1_0_0_1.resultIdx? (ix2 i b) idx = some (ix2 s k) ↔ (idx (ix2 i (0 : Fin 1))).toInt = (s.val : Int) ∧ b = k := by
  have s0 : scatter_S16x128_S32768x1_S32768x128_1_0_0_1.start (ix2 i b) idx 0 = (idx (ix2 i (0 : Fin 1))).toInt := by
    refine congrArg (fun q => (idx q).toInt) (funext fun a => ?_)
    match a with
    | ⟨0, _⟩ => rfl
    | ⟨1, _⟩ => rfl
  have s1 : scatter_S16x128_S32768x1_S32768x128_1_0_0_1.start (ix2 i b) idx 1 = 0 := rfl
  have w0 : scatter_S16x128_S32768x1_S32768x128_1_0_0_1.window (ix2 i b) 0 = 0 := rfl
  have w1 : scatter_S16x128_S32768x1_S32768x128_1_0_0_1.window (ix2 i b) 1 = b.val := rfl
  have hs := s.isLt
  have hb := b.isLt
  unfold ScatterDims.resultIdx?
  split
  · next h =>
    have h0 := (h 0).1
    rw [s0, w0] at h0
    rw [Option.some.injEq]
    refine ⟨fun e => ?_, fun e => ?_⟩
    · have e0 : (scatter_S16x128_S32768x1_S32768x128_1_0_0_1.start (ix2 i b) idx 0 + (scatter_S16x128_S32768x1_S32768x128_1_0_0_1.window (ix2 i b) 0 : Int)).toNat = s.val :=
        congrArg Fin.val (congrFun e 0)
      have e1 : (scatter_S16x128_S32768x1_S32768x128_1_0_0_1.start (ix2 i b) idx 1 + (scatter_S16x128_S32768x1_S32768x128_1_0_0_1.window (ix2 i b) 1 : Int)).toNat = k.val :=
        congrArg Fin.val (congrFun e 1)
      rw [s0, w0] at e0
      rw [s1, w1] at e1
      exact ⟨by omega, Fin.ext (by omega)⟩
    · obtain ⟨e, rfl⟩ := e
      refine funext fun a => Fin.ext ?_
      match a with
      | ⟨0, _⟩ =>
        show (scatter_S16x128_S32768x1_S32768x128_1_0_0_1.start (ix2 i b) idx 0 + (scatter_S16x128_S32768x1_S32768x128_1_0_0_1.window (ix2 i b) 0 : Int)).toNat = s.val
        rw [s0, w0]; omega
      | ⟨1, _⟩ =>
        show (scatter_S16x128_S32768x1_S32768x128_1_0_0_1.start (ix2 i b) idx 1 + (scatter_S16x128_S32768x1_S32768x128_1_0_0_1.window (ix2 i b) 1 : Int)).toNat = b.val
        rw [s1, w1]; omega
  · next h =>
    refine ⟨fun e => (by cases e), fun e => (h fun a => ?_).elim⟩
    match a with
    | ⟨0, _⟩ =>
      show 0 ≤ scatter_S16x128_S32768x1_S32768x128_1_0_0_1.start (ix2 i b) idx 0 + (scatter_S16x128_S32768x1_S32768x128_1_0_0_1.window (ix2 i b) 0 : Int) ∧
        scatter_S16x128_S32768x1_S32768x128_1_0_0_1.start (ix2 i b) idx 0 + (scatter_S16x128_S32768x1_S32768x128_1_0_0_1.window (ix2 i b) 0 : Int) < (16 : Int)
      rw [s0, w0]; omega
    | ⟨1, _⟩ =>
      show 0 ≤ scatter_S16x128_S32768x1_S32768x128_1_0_0_1.start (ix2 i b) idx 1 + (scatter_S16x128_S32768x1_S32768x128_1_0_0_1.window (ix2 i b) 1 : Int) ∧
        scatter_S16x128_S32768x1_S32768x128_1_0_0_1.start (ix2 i b) idx 1 + (scatter_S16x128_S32768x1_S32768x128_1_0_0_1.window (ix2 i b) 1 : Int) < (128 : Int)
      rw [s1, w1]; omega

/-- A scatter that adds: the entry and all updates that land on it. -/
theorem scatterAdd_at {s si su : Shape} (d : ScatterDims s si su) (x : FVec Ideal s .f32) (idx : IVec si 32) (upd : FVec Ideal su .f32) (i : s.Idx) :
    Host.scatterAdd d x idx upd i = (x i : EReal) + ∑ j ∈ Finset.univ.filter (fun j => d.resultIdx? j idx = some i), (upd j : EReal) := rfl

/-- The sum of segment `s` is the sum of its 2048 rows. -/
theorem sums_at {o : IVec S16 32} (ho : Ends o) (x : FVec Ideal S32768x128 .f32) (s : Fin 16) (k : Fin 128) :
    sums x o (ix2 s k) = ∑ r : Fin 2048, (x (ix2 (⟨s.val * 2048 + r.val, by omega⟩ : Fin 32768) k) : EReal) := by
  have key : ∀ (i : Fin 32768) (b : Fin 128),
      (scatter_S16x128_S32768x1_S32768x128_1_0_0_1.resultIdx? (ix2 i b)
        (broadcastInDim S32768x1 ![0] Facts₀.bcast_S32768_S32768x1_0 (ids o)) = some (ix2 s k)) ↔ (i.val / 2048 = s.val ∧ b = k) := fun i b => by
    have hi := i.isLt
    rw [lands]
    have e : broadcastInDim S32768x1 ![0] Facts₀.bcast_S32768_S32768x1_0 (ids o) (ix2 i (0 : Fin 1)) = ids o (ix1 i) := by pointwise
    rw [e, ids_at ho, StableHlo.Predicate.toInt_ofNat_small _ (by omega), Nat.cast_inj]
  have z : broadcastInDim S16x128 ![] Facts₀.bcast_S_S16x128 (constant S_ .f32 0x00000000#32 : FVec Ideal S_ .f32) (ix2 s k) = (0 : EReal) := by
    pointwise
  unfold sums
  rw [scatterAdd_at, z, zero_add, Finset.sum_filter, sum_idx2]
  simp only [key]
  have inner : ∀ i : Fin 32768, (∑ b : Fin 128, if i.val / 2048 = s.val ∧ b = k then (x (ix2 i b) : EReal) else 0)
      = if i.val / 2048 = s.val then (x (ix2 i k) : EReal) else 0 := fun i => by
    by_cases h : i.val / 2048 = s.val <;> simp [h]
  simp only [inner]
  rw [Fin.sum_univ_tiles 16 2048 rfl, Finset.sum_eq_single s]
  · refine Finset.sum_congr rfl fun r _ => ?_
    have hr := r.isLt
    rw [if_pos (by show (s.val * 2048 + r.val) / 2048 = s.val; omega)]
  · intro t _ ht
    refine Finset.sum_eq_zero fun r _ => if_neg ?_
    have hr := r.isLt
    have : t.val ≠ s.val := fun e => ht (Fin.ext e)
    show (t.val * 2048 + r.val) / 2048 ≠ s.val
    omega
  · intro h; exact (h (Finset.mem_univ s)).elim

/-- A segment's number is not negative: it is left as it is. -/
theorem wrapped_at {o : IVec S16 32} (ho : Ends o) (i : Fin 32768) : wrapped (ids o) (ix2 i (0 : Fin 1)) = BitVec.ofNat 32 (i.val / 2048) := by
  have hi := i.isLt
  have e : wrapped (ids o) (ix2 i (0 : Fin 1))
      = Scalar.select (IntOp.cmpi .slt (ids o (ix1 i)) 0#32) (IntOp.addi (ids o (ix1 i)) 16#32) (ids o (ix1 i)) := by pointwise [wrapped]
  have n : IntOp.cmpi .slt (BitVec.ofNat 32 (i.val / 2048)) 0#32 = 0#1 := by
    refine (BitVec.eq_zero_or_eq_one _).resolve_right fun h => ?_
    rw [StableHlo.Predicate.slt_iff_toNat (by rw [BitVec.toNat_ofNat]; omega) (by decide)] at h
    exact Nat.not_lt_zero _ h
  rw [e, ids_at ho, n]
  rfl

/-- Every segment's number is in bounds. -/
theorem inside_at {o : IVec S16 32} (ho : Ends o) (i : Fin 32768) : inside (wrapped (ids o)) (ix1 i) = 1#1 := by
  refine Host.reduce_andi_one _ _ _ _ _ rfl fun y => ?_
  obtain ⟨k, z, rfl⟩ : ∃ (k : Fin 32768) (z : Fin 1), y = ix2 k z := ⟨y 0, y 1, eq_ix2 y⟩
  obtain rfl : z = 0 := Subsingleton.elim _ _
  have hk := k.isLt
  have e : andi (cmpi .sge (wrapped (ids o)) (broadcastInDim S32768x1 ![] Facts₀.bcast_S_S32768x1 (constantI S_ 32 0#32)))
      (cmpi .sle (wrapped (ids o)) (broadcastInDim S32768x1 ![0, 1] Facts₀.bcast_S1x1_S32768x1_0_1
        (broadcastInDim S1x1 ![1] Facts₀.bcast_S1_S1x1_1 (constantI S1 32 15#32)))) (ix2 k 0)
      = IntOp.andi (IntOp.cmpi .sge (wrapped (ids o) (ix2 k 0)) 0#32) (IntOp.cmpi .sle (wrapped (ids o) (ix2 k 0)) 15#32) := by pointwise
  have small : (BitVec.ofNat 32 (k.val / 2048)).toNat < 2 ^ 31 := by rw [BitVec.toNat_ofNat]; omega
  rw [e, wrapped_at ho, (StableHlo.Predicate.sge_iff_toNat small (by decide)).2 (Nat.zero_le _),
    (StableHlo.Predicate.sle_iff_toNat small (by decide)).2 (by rw [BitVec.toNat_ofNat]; show _ ≤ 15; omega)]
  rfl

/-- Taking by segment reads the row of the segment. -/
theorem take_at {o : IVec S16 32} (ho : Ends o) (h : FVec Ideal S16x128 .f32) (i : Fin 32768) (k : Fin 128) :
    take h (ids o) (ix2 i k) = h (ix2 (⟨i.val / 2048, by omega⟩ : Fin 16) k) := by
  have e : take h (ids o) (ix2 i k) = Scalar.select (inside (wrapped (ids o)) (ix1 i))
      (Host.gather gather_S16x128_S32768x1_S32768x128_1_0_n_n_0_1_1128 h (wrapped (ids o)) (ix2 i k))
      (FloatOps.ofBits .f32 0x7FC00000#32) := by
    pointwise [take]
  rw [e, inside_at ho]
  exact Routing.gather_row _ rfl rfl rfl rfl rfl h _ i k ⟨i.val / 2048, by omega⟩ (wrapped_at ho i) (by norm_num)

end Cert.ReferenceIdeal.Hand

end
-- ==== Proof.ReferenceIdeal.Result.lean ====
module

public import proofs.«01_k».proof.Proof.ReferenceIdeal.Segments
public import proofs.«01_k».proof.Proof.Value.Holds

@[expose] public section

/-!
What the reference computes, when its arguments hold the inputs of the layer and the ends are 2048, 4096, …, 32768: the layer.
-/

set_option maxRecDepth 16384

namespace Cert.ReferenceIdeal.Hand

open Idealize.ShloMosaic Idealize.ShloMosaic.TcCoe
open Cert.ReferenceIdeal Cert.ReferenceIdeal.Gen Cert.Value Cert.Value.Inputs

/-! ## The stages at an index -/

/-- A segment's mean is its sum over its count. -/
theorem means_at (x : FVec Ideal S32768x128 .f32) (o : IVec S16 32) (s : Fin 16) (k : Fin 128) :
    means x o (ix2 s k) = Ideal.div (sums x o (ix2 s k)) (counts o (ix1 s)) := by
  pointwise [means]

/-- The hidden layer: the means times the weight's row, moved and cut off. -/
theorem hidden_at (x : FVec Ideal S32768x128 .f32) (o : IVec S16 32) (w2 : FVec Ideal S128x128 .f32) (b2 : FVec Ideal S128 .f32) (s : Fin 16) (k : Fin 128) :
    hidden x o w2 b2 (ix2 s k) = max ((∑ l : Fin 128, means x o (ix2 s l) * w2 (ix2 k l)) + b2 (ix1 k) : EReal) 0 := by
  pointwise [hidden]

/-- The linear layer: the tokens times the weight's first half and what was taken times its second half. -/
theorem linear_at (x t : FVec Ideal S32768x128 .f32) (w1 : FVec Ideal S128x256 .f32) (b1 : FVec Ideal S128 .f32) (i : Fin 32768) (j : Fin 128) :
    linear x t w1 b1 (ix2 i j)
      = ((∑ k : Fin 128, x (ix2 i k) * w1 (ix2 j (lo k))) + (∑ k : Fin 128, t (ix2 i k) * w1 (ix2 j (hi k))) + b1 (ix1 j) : EReal) := by
  pointwise [linear]

/-- The mean of a column is its sum over 32768. -/
theorem colMean_at (y : FVec Ideal S32768x128 .f32) (j : Fin 128) :
    colMean y (ix1 j) = Ideal.div (∑ i : Fin 32768, y (ix2 i j)) (Ideal.ofBits .f32 0x47000000#32) := by
  pointwise [colMean]

/-- The deviation: the root of the mean of the squared differences from the mean, with `1e-5` added. -/
theorem dev_at (y : FVec Ideal S32768x128 .f32) (j : Fin 128) :
    dev y (ix1 j) = Ideal.sqrt (Ideal.div (∑ i : Fin 32768, (y (ix2 i j) - colMean y (ix1 j)) * (y (ix2 i j) - colMean y (ix1 j)))
      (Ideal.ofBits .f32 0x47000000#32) + Ideal.ofBits .f32 0x3727C5AC#32) := by
  have e : dev y (ix1 j) = Ideal.sqrt (colMean (mulf (subf y (rows (colMean y))) (subf y (rows (colMean y)))) (ix1 j) + Ideal.ofBits .f32 0x3727C5AC#32) := by
    pointwise [dev]
  rw [e, colMean_at]
  have d : ∀ i : Fin 32768, mulf (subf y (rows (colMean y))) (subf y (rows (colMean y))) (ix2 i j)
      = ((y (ix2 i j) - colMean y (ix1 j)) * (y (ix2 i j) - colMean y (ix1 j)) : EReal) := fun i => by pointwise [rows]
  simp only [d]

/-- The normalised value: scaled, moved and cut off. -/
theorem norm_at (y : FVec Ideal S32768x128 .f32) (gamma beta : FVec Ideal S128 .f32) (i : Fin 32768) (j : Fin 128) :
    norm y gamma beta (ix2 i j)
      = max (Ideal.div (y (ix2 i j) - colMean y (ix1 j)) (dev y (ix1 j)) * gamma (ix1 j) + beta (ix1 j) : EReal) 0 := by
  pointwise [norm, rows]

/-! ## The stages on real numbers -/

variable {x : FVec Ideal S32768x128 .f32} {o : IVec S16 32} {w1 : FVec Ideal S128x256 .f32} {b1 gamma : FVec Ideal S128 .f32}
  {w2 : FVec Ideal S128x128 .f32} {b2 : FVec Ideal S128 .f32} {I : Inputs} (ho : Ends o) (hI : Holds I x w1 b1 gamma w2 b2)
include ho hI

/-- The segments' means. -/
theorem means_real (s : Fin 16) (k : Fin 128) : means x o (ix2 s k) = ((I.mean s k : ℝ) : EReal) := by
  have e : sums x o (ix2 s k) = ((I.segSum s k : ℝ) : EReal) := by
    rw [sums_at ho, Inputs.segSum, ← coe_sum]
    exact Finset.sum_congr rfl fun r _ => hI.x _ _
  rw [means_at, e, counts_at ho, coe_div _ (by norm_num), Inputs.mean]
  refine congrArg (fun r : ℝ => (r : EReal)) ?_
  ring

/-- The segments' hidden vectors. -/
theorem hidden_real (s : Fin 16) (k : Fin 128) : hidden x o w2 b2 (ix2 s k) = ((I.h s k : ℝ) : EReal) := by
  rw [hidden_at]
  simp only [means_real ho hI, hI.w2, hI.b2]
  rw [coe_sum_mul]
  exact I.h_coe s k

/-- The linear layer. -/
theorem linear_real (i : Fin 32768) (j : Fin 128) :
    linear x (take (hidden x o w2 b2) (ids o)) w1 b1 (ix2 i j) = ((I.y i j : ℝ) : EReal) := by
  rw [linear_at]
  simp only [take_at ho, hidden_real ho hI, hI.x, hI.w1, hI.b1]
  rw [coe_sum_mul, coe_sum_mul, ← EReal.coe_add, ← EReal.coe_add, add_assoc]
  rfl

/-- THE RESULT: at each row and column the layer of the real inputs, moved by whatever `beta` holds. -/
theorem result_layer (beta : FVec Ideal S128 .f32) (i : Fin 32768) (j : Fin 128) :
    result x o w1 b1 gamma beta w2 b2 (ix2 i j) = layer I (beta (ix1 j)) i j := by
  have mu : colMean (linear x (take (hidden x o w2 b2) (ids o)) w1 b1) (ix1 j) = ((I.mu j : ℝ) : EReal) := by
    rw [colMean_at]
    simp only [linear_real ho hI]
    rw [coe_sum, word_32768, coe_div _ (by norm_num)]
    rfl
  have sd : dev (linear x (take (hidden x o w2 b2) (ids o)) w1 b1) (ix1 j) = ((Real.sqrt (I.var j + eps) : ℝ) : EReal) := by
    rw [dev_at, mu]
    simp only [linear_real ho hI, ← EReal.coe_sub]
    rw [coe_sum_mul, word_32768, coe_div _ (by norm_num), word_eps, ← EReal.coe_add]
    exact coe_sqrt (dev_pos I j)
  unfold result
  rw [norm_at, mu, sd, linear_real ho hI, hI.gamma, ← EReal.coe_sub, coe_div _ (Real.sqrt_pos.2 (dev_pos I j)).ne', ← EReal.coe_mul]
  rfl

end Cert.ReferenceIdeal.Hand

end
-- ==== Proof.Value.Given.lean ====
module

public import proofs.«01_k».proof.Proof.Gen.Pre_finite_equal_segments
public import proofs.«01_k».proof.Proof.Value.Holds
public import proofs.«01_k».proof.Proof.ReferenceIdeal.Segments
public import Idealize.ShloMosaic.Lib.ReduceAll

@[expose] public section

/-!
What the precondition gives: the ends are 2048, 4096, …, 32768, and the arrays it names hold real numbers, but for
one that may hold minus infinity.
-/

set_option maxRecDepth 16384

namespace Cert.Value

open Idealize.ShloMosaic Idealize.ShloMosaic.TcCoe
open Cert.Pre_finite_equal_segments

/-- The word of infinity. -/
theorem word_top : Ideal.ofBits .f32 0x7F800000#32 = ⊤ := by simp [Ideal.ofBits, Ideal.ieee]

/-- An extended real whose absolute value lies below infinity is a real number. -/
theorem real_of_abs {a : EReal} (h : Ideal.cmp .olt (max a (-a)) (Ideal.ofBits .f32 0x7F800000#32) = 1#1) : ((a.toReal : ℝ) : EReal) = a := by
  rw [word_top] at h
  refine EReal.coe_toReal ?_ ?_
  · rintro rfl
    revert h
    simp [Ideal.cmp]
  · rintro rfl
    revert h
    simp [Ideal.cmp]

/-- An extended real that lies below infinity is not infinity. -/
theorem ne_top_of_lt {a : EReal} (h : Ideal.cmp .olt a (Ideal.ofBits .f32 0x7F800000#32) = 1#1) : a ≠ ⊤ := by
  rw [word_top] at h
  rintro rfl
  revert h
  simp [Ideal.cmp]

/-- A single bit that all comparisons of an array give says that the array holds real numbers. -/
theorem real_of_all {s : Shape} {axes : List (Fin s.rank)} (v : FVec Ideal s .f32) (hb : S_.BroadcastsInDim s (![] : Fin 0 → Fin s.rank))
    (hr : s.ReducesTo axes S_) (hu : 0 < S_.numel) (j : S_.Idx)
    (h : Host.reduce IntOp.andi (cmpf .olt (Host.absf v) (broadcastInDim s ![] hb (constant S_ .f32 0x7F800000#32))) (constantI S_ 1 1#1) hr hu j = 1#1)
    (i : s.Idx) : (((v i : EReal).toReal : ℝ) : EReal) = v i :=
  haveI : Subsingleton S_.Idx := ⟨fun a b => funext fun k => k.elim0⟩
  real_of_abs (Host.reduce_andi_all _ _ hr hu j h i)

/-- The precondition on the ten arguments, taken apart. -/
theorem given [Facts] {a0 a1 : FVec Ideal S32768x3 .f32} {x : FVec Ideal S32768x128 .f32} {o : IVec S16 32} {w1 : FVec Ideal S128x256 .f32}
    {b1 gamma beta : FVec Ideal S128 .f32} {w2 : FVec Ideal S128x128 .f32} {b2 : FVec Ideal S128 .f32}
    (h : fn (F := Ideal) a0 a1 x o w1 b1 gamma beta w2 b2 = fun _ => 1#1) :
    Cert.ReferenceIdeal.Hand.Ends o ∧ ∃ I : Inputs, Holds I x w1 b1 gamma w2 b2 := by
  haveI : Subsingleton S_.Idx := ⟨fun a b => funext fun k => k.elim0⟩
  have h0 := congrFun h ix0
  obtain ⟨h1, hb2⟩ := IntOp.andi_eq_one.1 h0
  obtain ⟨h2, hw2⟩ := IntOp.andi_eq_one.1 h1
  obtain ⟨h3, hg⟩ := IntOp.andi_eq_one.1 h2
  obtain ⟨h4, hb1⟩ := IntOp.andi_eq_one.1 h3
  obtain ⟨h5, hw1⟩ := IntOp.andi_eq_one.1 h4
  obtain ⟨ho, hx⟩ := IntOp.andi_eq_one.1 h5
  refine ⟨fun s => ?_, exists_holds (real_of_all x _ _ _ _ hx) (real_of_all w1 _ _ _ _ hw1) (real_of_all b1 _ _ _ _ hb1)
    (real_of_all gamma _ _ _ _ hg) (real_of_all w2 _ _ _ _ hw2) (fun i => ne_top_of_lt (Host.reduce_andi_all _ _ _ _ _ hb2 i))⟩
  refine (StableHlo.Predicate.cmpi_eq_iff.1 (Host.reduce_andi_all _ _ _ _ _ ho (ix1 s))).trans ?_
  have e : muli (addi (iotaInDim S16 32 0) (broadcastInDim S16 ![] Facts.bcast_S_S16 (constantI S_ 32 1#32)))
      (broadcastInDim S16 ![] Facts.bcast_S_S16 (constantI S_ 32 2048#32)) (ix1 s) = (BitVec.ofNat 32 s.val + 1#32) * 2048#32 := by
    pointwise
    rfl
  refine e.trans ?_
  rw [BitVec.ofNat_mul, BitVec.ofNat_add]

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_equal_segments
public import proofs.«01_k».proof.Proof.Kernel.Frame
public import proofs.«01_k».proof.Proof.KernelIdeal.Final
public import proofs.«01_k».proof.Proof.KernelIdeal.Result
public import proofs.«01_k».proof.Proof.ReferenceIdeal.Result
public import proofs.«01_k».proof.Proof.Value.Given
public import Idealize.ShloMosaic.Lib.Claim
public import Idealize.ShloMosaic.Adequacy
public import Idealize.ShloMosaic.Init

@[expose] public section

/-!
The proof of `Cert.Claim`, assembled from the modules beside it.
-/

noncomputable section

namespace Cert.Proof

open Idealize.ShloMosaic Idealize.SL.Sem Cert.Kernel

set_option maxHeartbeats 1600000 in
/-- The reference runs, from any memory, and leaves its arguments and the semaphore counters as they were. -/
theorem quiescent_reference : Cert.quiescent_ReferenceIdeal := by
  intro m g _
  hlo_run
  · exact fun _ => ⟨trivial, trivial, trivial, trivial, trivial, trivial, trivial, trivial, trivial, trivial⟩
  · exact Idealize.ShloMosaic.sem_eq_zero_of_no_sems (by decide) r.2

set_option maxHeartbeats 1600000 in
/-- From the same arguments, under the precondition, the kernel and the reference give the same result. -/
theorem algebraic : Cert.algebraic_KernelIdeal_ReferenceIdeal_pre_finite_equal_segments := by
  pair_intro
  · run_from Cert.KernelIdeal.Hand.run_main m g
  · hlo_run
    obtain ⟨ho, I, hI⟩ := Cert.Value.given (hpre c)
    obtain ⟨-, -, h2, h3, -, -, -, -, h8, h9⟩ := hagree c
    simp -implicitDefEqProofs only [StableHlo.TRef.toBuf, StableHlo.TRef.ofBuf, cast_cast, cast_eq]
    rw [h2, h3, h8, h9, Cert.KernelIdeal.Hand.final m c]
    funext y
    obtain ⟨i, j, rfl⟩ : ∃ (i : Fin 32768) (j : Fin 128), y = ix2 i j := ⟨y 0, y 1, eq_ix2 y⟩
    exact (Cert.ReferenceIdeal.Hand.result_layer ho hI _ i j).trans (Cert.KernelIdeal.Hand.OUT_layer hI i j).symm

/-- Every claim of the certificate. -/
theorem claim : Cert.Claim := ⟨Cert.Kernel.Gen.facts, Cert.KernelIdeal.Gen.facts, Cert.ReferenceIdeal.Gen.facts, Cert.Pre_finite_equal_segments.Gen.facts,
  fun m g _ => Cert.Kernel.Hand.frame m g, fun m g _ => Cert.KernelIdeal.Hand.frame m g, fun m g _ => Cert.KernelIdeal.Hand.frame m g,
  quiescent_reference, fun m g _ => quiescent_reference m g trivial, trivial, algebraic⟩

end Cert.Proof

end
